-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "sm_scale_log2e" .f32 0x3E0293EE#32 ((((Real.sqrt 128) * (Real.log 2))⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v141) = v4 c
          ∧ r.2.mem ((c.tc : Thread Cert.ReferenceIdeal.nD Cert.ReferenceIdeal.τ).loc Cert.ReferenceIdeal.main_v142) = v5 c
          ∧ r.2.mem ((c.tc : Thread Cert.ReferenceIdeal.nD Cert.ReferenceIdeal.τ).loc Cert.ReferenceIdeal.main_v143) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S9x2048x1024 : Shape := ⟨3, ![9, 2048, 1024]⟩
abbrev S9x2048x256 : Shape := ⟨3, ![9, 2048, 256]⟩
abbrev S9x2048x8x128 : Shape := ⟨4, ![9, 2048, 8, 128]⟩
abbrev S_ : Shape := ⟨0, ![]⟩
abbrev S9x8 : Shape := ⟨2, ![9, 8]⟩
abbrev S9x2048x2x128 : Shape := ⟨4, ![9, 2048, 2, 128]⟩
abbrev S9x2 : Shape := ⟨2, ![9, 2]⟩

class Facts : Prop where
  shapeCasts_S9x2048x1024_S9x2048x8x128 : S9x2048x1024.ShapeCasts S9x2048x8x128
  bitsLt_bf16_f32 : FTy.bits .bf16 < FTy.bits .f32
  reducesTo_S9x2048x8x128_S9x8_d1_3 : S9x2048x8x128.ReducesTo [1, 3] S9x8
  h_S_ : 0 < S_.numel
  bcast_S_S9x8 : S_.BroadcastsInDim S9x8 (![] : Fin 0 → Fin S9x8.rank)
  shapeCasts_S9x2048x256_S9x2048x2x128 : S9x2048x256.ShapeCasts S9x2048x2x128
  reducesTo_S9x2048x2x128_S9x2_d1_3 : S9x2048x2x128.ReducesTo [1, 3] S9x2
  bcast_S_S9x2 : S_.BroadcastsInDim S9x2 (![] : Fin 0 → Fin S9x2.rank)

variable [Facts]

def fn_part1 {F : FTy → Type} [FloatOps F] (main_arg2 : FVec F S9x2048x256 .bf16) (main_v11 : IVec S9x8 1) (main_v15 : FVec F S9x2 .f32) (main_v17 : IVec S9x2 1) : IVec S9x8 1 × IVec S9x2 1 × IVec S9x2 1 :=
  let main_cst_5 : FVec F S_ .f32 := constant S_ .f32 0x04800000#32
  let main_v18 : FVec F S9x2 .f32 := broadcastInDim S9x2 ![] bcast_S_S9x2 main_cst_5
  let main_v19 : IVec S9x2 1 := cmpf .oge main_v15 main_v18
  let main_cst_6 : FVec F S_ .f32 := constant S_ .f32 0x7F7F0000#32
  let main_v20 : FVec F S9x2 .f32 := broadcastInDim S9x2 ![] bcast_S_S9x2 main_cst_6
  let main_v21 : IVec S9x2 1 := cmpf .ole main_v15 main_v20
  let main_v22 : IVec S9x2 1 := andi main_v19 main_v21
  let main_v23 : IVec S9x2 1 := ori main_v17 main_v22
  let main_v24 : FVec F S9x2048x2x128 .bf16 := shapeCast S9x2048x2x128 main_arg2 shapeCasts_S9x2048x256_S9x2048x2x128
  let main_v25 : FVec F S9x2048x2x128 .f32 := (extf .f32 · bitsLt_bf16_f32) main_v24
  let main_v26 : FVec F S9x2048x2x128 .f32 := Host.absf main_v25
  let main_cst_7 : FVec F S_ .f32 := constant S_ .f32 0xFF800000#32
  let main_v27 : FVec F S9x2 .f32 := (fun x v => Host.reduce FloatOps.maximumf x v reducesTo_S9x2048x2x128_S9x2_d1_3 h_S_) main_v26 main_cst_7
  let main_cst_8 : FVec F S_ .f32 := constant S_ .f32 0x00000000#32
  let main_v28 : FVec F S9x2 .f32 := broadcastInDim S9x2 ![] bcast_S_S9x2 main_cst_8
  let main_v29 : IVec S9x2 1 := cmpf .oeq main_v27 main_v28
  let main_cst_9 : FVec F S_ .f32 := constant S_ .f32 0x04800000#32
  let main_v30 : FVec F S9x2 .f32 := broadcastInDim S9x2 ![] bcast_S_S9x2 main_cst_9
  let main_v31 : IVec S9x2 1 := cmpf .oge main_v27 main_v30
  let main_cst_10 : FVec F S_ .f32 := constant S_ .f32 0x7F7F0000#32
  let main_v32 : FVec F S9x2 .f32 := broadcastInDim S9x2 ![] bcast_S_S9x2 main_cst_10
  let main_v33 : IVec S9x2 1 := cmpf .ole main_v27 main_v32
  let main_v34 : IVec S9x2 1 := andi main_v31 main_v33
  let main_v35 : IVec S9x2 1 := ori main_v29 main_v34
  (main_v11, main_v23, main_v35)

def fn {F : FTy → Type} [FloatOps F] (main_arg0 : FVec F S9x2048x1024 .bf16) (main_arg1 : FVec F S9x2048x256 .bf16) (main_arg2 : FVec F S9x2048x256 .bf16) : IVec S9x8 1 × IVec S9x2 1 × IVec S9x2 1 :=
  let main_v0 : FVec F S9x2048x8x128 .bf16 := shapeCast S9x2048x8x128 main_arg0 shapeCasts_S9x2048x1024_S9x2048x8x128
  let main_v1 : FVec F S9x2048x8x128 .f32 := (extf .f32 · bitsLt_bf16_f32) main_v0
  let main_v2 : FVec F S9x2048x8x128 .f32 := Host.absf main_v1
  let main_cst : FVec F S_ .f32 := constant S_ .f32 0xFF800000#32
  let main_v3 : FVec F S9x8 .f32 := (fun x v => Host.reduce FloatOps.maximumf x v reducesTo_S9x2048x8x128_S9x8_d1_3 h_S_) main_v2 main_cst
  let main_cst_0 : FVec F S_ .f32 := constant S_ .f32 0x00000000#32
  let main_v4 : FVec F S9x8 .f32 := broadcastInDim S9x8 ![] bcast_S_S9x8 main_cst_0
  let main_v5 : IVec S9x8 1 := cmpf .oeq main_v3 main_v4
  let main_cst_1 : FVec F S_ .f32 := constant S_ .f32 0x04800000#32
  let main_v6 : FVec F S9x8 .f32 := broadcastInDim S9x8 ![] bcast_S_S9x8 main_cst_1
  let main_v7 : IVec S9x8 1 := cmpf .oge main_v3 main_v6
  let main_cst_2 : FVec F S_ .f32 := constant S_ .f32 0x7F7F0000#32
  let main_v8 : FVec F S9x8 .f32 := broadcastInDim S9x8 ![] bcast_S_S9x8 main_cst_2
  let main_v9 : IVec S9x8 1 := cmpf .ole main_v3 main_v8
  let main_v10 : IVec S9x8 1 := andi main_v7 main_v9
  let main_v11 : IVec S9x8 1 := ori main_v5 main_v10
  let main_v12 : FVec F S9x2048x2x128 .bf16 := shapeCast S9x2048x2x128 main_arg1 shapeCasts_S9x2048x256_S9x2048x2x128
  let main_v13 : FVec F S9x2048x2x128 .f32 := (extf .f32 · bitsLt_bf16_f32) main_v12
  let main_v14 : FVec F S9x2048x2x128 .f32 := Host.absf main_v13
  let main_cst_3 : FVec F S_ .f32 := constant S_ .f32 0xFF800000#32
  let main_v15 : FVec F S9x2 .f32 := (fun x v => Host.reduce FloatOps.maximumf x v reducesTo_S9x2048x2x128_S9x2_d1_3 h_S_) main_v14 main_cst_3
  let main_cst_4 : FVec F S_ .f32 := constant S_ .f32 0x00000000#32
  let main_v16 : FVec F S9x2 .f32 := broadcastInDim S9x2 ![] bcast_S_S9x2 main_cst_4
  let main_v17 : IVec S9x2 1 := cmpf .oeq main_v15 main_v16
  fn_part1 (F := F) main_arg2 main_v11 main_v15 main_v17
-- ==== Kernel.lean ====
abbrev S9x2048x1024 : Shape := ⟨3, ![9, 2048, 1024]⟩
abbrev S9x2048x256 : Shape := ⟨3, ![9, 2048, 256]⟩
abbrev S9x2x2048x128 : Shape := ⟨4, ![9, 2, 2048, 128]⟩
abbrev S8x9 : Shape := ⟨2, ![8, 9]⟩
abbrev S2x9 : Shape := ⟨2, ![2, 9]⟩
abbrev S1x2048x512 : Shape := ⟨3, ![1, 2048, 512]⟩
abbrev S1x2048x128 : Shape := ⟨3, ![1, 2048, 128]⟩
abbrev S1x1x2048x128 : Shape := ⟨4, ![1, 1, 2048, 128]⟩
abbrev S128x2048 : Shape := ⟨2, ![128, 2048]⟩
abbrev S1024x256 : Shape := ⟨2, ![1024, 256]⟩
abbrev S2048x128 : Shape := ⟨2, ![2048, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S256x256 : Shape := ⟨2, ![256, 256]⟩
abbrev S1x256x128 : Shape := ⟨3, ![1, 256, 128]⟩
abbrev S256x128 : Shape := ⟨2, ![256, 128]⟩
abbrev S1x1x256x128 : Shape := ⟨4, ![1, 1, 256, 128]⟩
abbrev S256 : Shape := ⟨1, ![256]⟩
abbrev S128x256 : Shape := ⟨2, ![128, 256]⟩

abbrev nBuf : Space → Nat
  | .hbm => 10
  | .vmem => 20
  | .smem => 0
  | _ => 0

abbrev bufTy : (tb : Table) → Fin (tcTables nBuf tb) → BufTy
  | .hbm, ⟨0, _⟩ => ⟨S9x2048x1024, .bf16⟩
  | .hbm, ⟨1, _⟩ => ⟨S9x2048x256, .bf16⟩
  | .hbm, ⟨2, _⟩ => ⟨S9x2048x256, .bf16⟩
  | .hbm, ⟨3, _⟩ => ⟨S9x2048x1024, .bf16⟩
  | .hbm, ⟨4, _⟩ => ⟨S9x2048x1024, .fp8e4m3⟩
  | .hbm, ⟨5, _⟩ => ⟨S9x2x2048x128, .fp8e4m3⟩
  | .hbm, ⟨6, _⟩ => ⟨S9x2x2048x128, .fp8e4m3⟩
  | .hbm, ⟨7, _⟩ => ⟨S8x9, .f32⟩
  | .hbm, ⟨8, _⟩ => ⟨S2x9, .f32⟩
  | .hbm, ⟨9, _⟩ => ⟨S2x9, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x1x2048x128, .fp8e4m3⟩
  | .local _ .vmem, ⟨11, _⟩ => ⟨S1x1x2048x128, .fp8e4m3⟩
  | .local _ .vmem, ⟨12, _⟩ => ⟨S1x1x2048x128, .fp8e4m3⟩
  | .local _ .vmem, ⟨13, _⟩ => ⟨S1x1x2048x128, .fp8e4m3⟩
  | .local _ .vmem, ⟨14, _⟩ => ⟨S8x9, .f32⟩
  | .local _ .vmem, ⟨15, _⟩ => ⟨S2x9, .f32⟩
  | .local _ .vmem, ⟨16, _⟩ => ⟨S2x9, .f32⟩
  | .local _ .vmem, ⟨17, _⟩ => ⟨S128x2048, .fp8e4m3⟩
  | .local _ .vmem, ⟨18, _⟩ => ⟨S1024x256, .f32⟩
  | .local _ .vmem, ⟨19, _⟩ => ⟨S1024x256, .fp8e4m3⟩
  | _, _ => ⟨S9x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "sm_scale_log2e" => some ((((Real.sqrt 128) * (Real.log 2))⁻¹ : ℝ) : EReal)
  | _ => none
-- ==== ReferenceIdeal.lean ====
abbrev S9x2048x1024 : Shape := ⟨3, ![9, 2048, 1024]⟩
abbrev S9x2048x256 : Shape := ⟨3, ![9, 2048, 256]⟩
abbrev S9x2048x8x128 : Shape := ⟨4, ![9, 2048, 8, 128]⟩
abbrev S_ : Shape := ⟨0, ![]⟩
abbrev S9x8 : Shape := ⟨2, ![9, 8]⟩
abbrev S9x1x8x1 : Shape := ⟨4, ![9, 1, 8, 1]⟩
abbrev S9x2048x2x128 : Shape := ⟨4, ![9, 2048, 2, 128]⟩
abbrev S9x2 : Shape := ⟨2, ![9, 2]⟩
abbrev S9x1x2x1 : Shape := ⟨4, ![9, 1, 2, 1]⟩
abbrev S9x2048x2x4x128 : Shape := ⟨5, ![9, 2048, 2, 4, 128]⟩
abbrev S9x2x4 : Shape := ⟨3, ![9, 2, 4]⟩
abbrev S9x2x1 : Shape := ⟨3, ![9, 2, 1]⟩
abbrev S9x2x2048x2048x4 : Shape := ⟨5, ![9, 2, 2048, 2048, 4]⟩
abbrev S9x2x4x2048x2048 : Shape := ⟨5, ![9, 2, 4, 2048, 2048]⟩
abbrev S9x2x4x1x1 : Shape := ⟨5, ![9, 2, 4, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S9x2x4x2048 : Shape := ⟨4, ![9, 2, 4, 2048]⟩
abbrev S9x2x4x2048x1 : Shape := ⟨5, ![9, 2, 4, 2048, 1]⟩
abbrev S9x2x128x4x2048 : Shape := ⟨5, ![9, 2, 128, 4, 2048]⟩
abbrev S9x1x2x1x1 : Shape := ⟨5, ![9, 1, 2, 1, 1]⟩
abbrev S9x2048x2x4 : Shape := ⟨4, ![9, 2048, 2, 4]⟩
abbrev S9x2048x2x4x1 : Shape := ⟨5, ![9, 2048, 2, 4, 1]⟩
abbrev S9x2x2048x128 : Shape := ⟨4, ![9, 2, 2048, 128]⟩
abbrev S8x9 : Shape := ⟨2, ![8, 9]⟩
abbrev S2x9 : Shape := ⟨2, ![2, 9]⟩

abbrev nBuf : Space → Nat
  | .hbm => 200
  | .vmem => 0
  | .smem => 0
  | _ => 0

abbrev hbmTy0_0 (i : Nat) : BufTy := match i % 128 with
  | 0 => ⟨S9x2048x1024, .bf16⟩
  | 1 => ⟨S9x2048x256, .bf16⟩
  | 2 => ⟨S9x2048x256, .bf16⟩
  | 3 => ⟨S9x2048x1024, .f32⟩
  | 4 => ⟨S9x2048x8x128, .f32⟩
  | 5 => ⟨S9x2048x8x128, .f32⟩
  | 6 => ⟨S_, .f32⟩
  | 7 => ⟨S9x8, .f32⟩
  | 8 => ⟨S_, .f32⟩
  | 9 => ⟨S_, .f32⟩
  | 10 => ⟨S_, .f32⟩
  | 11 => ⟨S9x8, .f32⟩
  | 12 => ⟨S9x8, .f32⟩
  | 13 => ⟨S9x8, .f32⟩
  | 14 => ⟨S_, .f32⟩
  | 15 => ⟨S9x8, .f32⟩
  | 16 => ⟨S9x8, .f32⟩
  | 17 => ⟨S9x8, .f32⟩
  | 18 => ⟨S_, .f32⟩
  | 19 => ⟨S9x8, .f32⟩
  | 20 => ⟨S9x8, .f32⟩
  | 21 => ⟨S_, .f32⟩
  | 22 => ⟨S9x8, .f32⟩
  | 23 => ⟨S9x8, .i1⟩
  | 24 => ⟨S_, .f32⟩
  | 25 => ⟨S_, .f32⟩
  | 26 => ⟨S9x8, .f32⟩
  | 27 => ⟨S9x8, .f32⟩
  | 28 => ⟨S_, .f32⟩
  | 29 => ⟨S9x8, .f32⟩
  | 30 => ⟨S9x8, .f32⟩
  | 31 => ⟨S9x8, .f32⟩
  | 32 => ⟨S9x8, .f32⟩
  | 33 => ⟨S_, .f32⟩
  | 34 => ⟨S9x8, .f32⟩
  | 35 => ⟨S9x8, .f32⟩
  | 36 => ⟨S9x8, .f32⟩
  | 37 => ⟨S9x1x8x1, .f32⟩
  | 38 => ⟨S9x2048x8x128, .f32⟩
  | 39 => ⟨S9x2048x8x128, .f32⟩
  | 40 => ⟨S_, .f32⟩
  | 41 => ⟨S_, .f32⟩
  | 42 => ⟨S_, .f32⟩
  | 43 => ⟨S9x2048x8x128, .f32⟩
  | 44 => ⟨S9x2048x8x128, .f32⟩
  | 45 => ⟨S_, .f32⟩
  | 46 => ⟨S9x2048x8x128, .f32⟩
  | 47 => ⟨S9x2048x8x128, .f32⟩
  | 48 => ⟨S9x2048x256, .f32⟩
  | 49 => ⟨S9x2048x2x128, .f32⟩
  | 50 => ⟨S9x2048x2x128, .f32⟩
  | 51 => ⟨S_, .f32⟩
  | 52 => ⟨S9x2, .f32⟩
  | 53 => ⟨S_, .f32⟩
  | 54 => ⟨S_, .f32⟩
  | 55 => ⟨S_, .f32⟩
  | 56 => ⟨S9x2, .f32⟩
  | 57 => ⟨S9x2, .f32⟩
  | 58 => ⟨S9x2, .f32⟩
  | 59 => ⟨S_, .f32⟩
  | 60 => ⟨S9x2, .f32⟩
  | 61 => ⟨S9x2, .f32⟩
  | 62 => ⟨S9x2, .f32⟩
  | 63 => ⟨S_, .f32⟩
  | 64 => ⟨S9x2, .f32⟩
  | 65 => ⟨S9x2, .f32⟩
  | 66 => ⟨S_, .f32⟩
  | 67 => ⟨S9x2, .f32⟩
  | 68 => ⟨S9x2, .i1⟩
  | 69 => ⟨S_, .f32⟩
  | 70 => ⟨S_, .f32⟩
  | 71 => ⟨S9x2, .f32⟩
  | 72 => ⟨S9x2, .f32⟩
  | 73 => ⟨S_, .f32⟩
  | 74 => ⟨S9x2, .f32⟩
  | 75 => ⟨S9x2, .f32⟩
  | 76 => ⟨S9x2, .f32⟩
  | 77 => ⟨S9x2, .f32⟩
  | 78 => ⟨S_, .f32⟩
  | 79 => ⟨S9x2, .f32⟩
  | 80 => ⟨S9x2, .f32⟩
  | 81 => ⟨S9x2, .f32⟩
  | 82 => ⟨S9x1x2x1, .f32⟩
  | 83 => ⟨S9x2048x2x128, .f32⟩
  | 84 => ⟨S9x2048x2x128, .f32⟩
  | 85 => ⟨S_, .f32⟩
  | 86 => ⟨S_, .f32⟩
  | 87 => ⟨S_, .f32⟩
  | 88 => ⟨S9x2048x2x128, .f32⟩
  | 89 => ⟨S9x2048x2x128, .f32⟩
  | 90 => ⟨S_, .f32⟩
  | 91 => ⟨S9x2048x2x128, .f32⟩
  | 92 => ⟨S9x2048x2x128, .f32⟩
  | 93 => ⟨S9x2048x256, .f32⟩
  | 94 => ⟨S9x2048x2x128, .f32⟩
  | 95 => ⟨S9x2048x2x128, .f32⟩
  | 96 => ⟨S_, .f32⟩
  | 97 => ⟨S9x2, .f32⟩
  | 98 => ⟨S_, .f32⟩
  | 99 => ⟨S_, .f32⟩
  | 100 => ⟨S_, .f32⟩
  | 101 => ⟨S9x2, .f32⟩
  | 102 => ⟨S9x2, .f32⟩
  | 103 => ⟨S9x2, .f32⟩
  | 104 => ⟨S_, .f32⟩
  | 105 => ⟨S9x2, .f32⟩
  | 106 => ⟨S9x2, .f32⟩
  | 107 => ⟨S9x2, .f32⟩
  | 108 => ⟨S_, .f32⟩
  | 109 => ⟨S9x2, .f32⟩
  | 110 => ⟨S9x2, .f32⟩
  | 111 => ⟨S_, .f32⟩
  | 112 => ⟨S9x2, .f32⟩
  | 113 => ⟨S9x2, .i1⟩
  | 114 => ⟨S_, .f32⟩
  | 115 => ⟨S_, .f32⟩
  | 116 => ⟨S9x2, .f32⟩
  | 117 => ⟨S9x2, .f32⟩
  | 118 => ⟨S_, .f32⟩
  | 119 => ⟨S9x2, .f32⟩
  | 120 => ⟨S9x2, .f32⟩
  | 121 => ⟨S9x2, .f32⟩
  | 122 => ⟨S9x2, .f32⟩
  | 123 => ⟨S_, .f32⟩
  | 124 => ⟨S9x2, .f32⟩
  | 125 => ⟨S9x2, .f32⟩
  | 126 => ⟨S9x2, .f32⟩
  | 127 => ⟨S9x1x2x1, .f32⟩
  | _ => ⟨S9x2048x1024, .bf16⟩

abbrev hbmTy0_1 (i : Nat) : BufTy := match i % 128 with
  | 0 => ⟨S9x2048x2x128, .f32⟩
  | 1 => ⟨S9x2048x2x128, .f32⟩
  | 2 => ⟨S_, .f32⟩
  | 3 => ⟨S_, .f32⟩
  | 4 => ⟨S_, .f32⟩
  | 5 => ⟨S9x2048x2x128, .f32⟩
  | 6 => ⟨S9x2048x2x128, .f32⟩
  | 7 => ⟨S_, .f32⟩
  | 8 => ⟨S9x2048x2x128, .f32⟩
  | 9 => ⟨S9x2048x2x128, .f32⟩
  | 10 => ⟨S9x2048x2x4x128, .f32⟩
  | 11 => ⟨S9x2x4, .f32⟩
  | 12 => ⟨S9x2x1, .f32⟩
  | 13 => ⟨S9x2x4, .f32⟩
  | 14 => ⟨S9x2x4, .f32⟩
  | 15 => ⟨S_, .f32⟩
  | 16 => ⟨S_, .f32⟩
  | 17 => ⟨S_, .f32⟩
  | 18 => ⟨S9x2x4, .f32⟩
  | 19 => ⟨S9x2x4, .f32⟩
  | 20 => ⟨S9x2x2048x2048x4, .f32⟩
  | 21 => ⟨S9x2x4x2048x2048, .f32⟩
  | 22 => ⟨S9x2x4x1x1, .f32⟩
  | 23 => ⟨S9x2x4x2048x2048, .f32⟩
  | 24 => ⟨S9x2x4x2048x2048, .f32⟩
  | 25 => ⟨S2048, .i32⟩
  | 26 => ⟨S2048x1, .i32⟩
  | 27 => ⟨S2048, .i32⟩
  | 28 => ⟨S1x2048, .i32⟩
  | 29 => ⟨S2048x2048, .i32⟩
  | 30 => ⟨S2048x2048, .i32⟩
  | 31 => ⟨S2048x2048, .i1⟩
  | 32 => ⟨S_, .i32⟩
  | 33 => ⟨S2048x1, .i32⟩
  | 34 => ⟨S2048x1, .i32⟩
  | 35 => ⟨S2048x2048, .i32⟩
  | 36 => ⟨S2048x2048, .i32⟩
  | 37 => ⟨S2048x2048, .i1⟩
  | 38 => ⟨S2048x2048, .i1⟩
  | 39 => ⟨S_, .f32⟩
  | 40 => ⟨S_, .f32⟩
  | 41 => ⟨S9x2x4x2048x2048, .i1⟩
  | 42 => ⟨S9x2x4x2048x2048, .f32⟩
  | 43 => ⟨S9x2x4x2048x2048, .f32⟩
  | 44 => ⟨S_, .f32⟩
  | 45 => ⟨S9x2x4x2048, .f32⟩
  | 46 => ⟨S9x2x4x2048x1, .f32⟩
  | 47 => ⟨S9x2x4x2048x2048, .f32⟩
  | 48 => ⟨S9x2x4x2048x2048, .f32⟩
  | 49 => ⟨S9x2x4x2048x2048, .f32⟩
  | 50 => ⟨S_, .f32⟩
  | 51 => ⟨S9x2x4x2048, .f32⟩
  | 52 => ⟨S9x2x128x4x2048, .f32⟩
  | 53 => ⟨S9x2048x2x4x128, .f32⟩
  | 54 => ⟨S9x1x2x1x1, .f32⟩
  | 55 => ⟨S9x2048x2x4x128, .f32⟩
  | 56 => ⟨S9x2048x2x4x128, .f32⟩
  | 57 => ⟨S9x2048x2x4, .f32⟩
  | 58 => ⟨S9x2048x2x4x1, .f32⟩
  | 59 => ⟨S9x2048x2x4x128, .f32⟩
  | 60 => ⟨S9x2048x2x4x128, .f32⟩
  | 61 => ⟨S9x2048x2x4x128, .bf16⟩
  | 62 => ⟨S9x2048x1024, .bf16⟩
  | 63 => ⟨S9x2048x8x128, .fp8e4m3⟩
  | 64 => ⟨S9x2048x1024, .fp8e4m3⟩
  | 65 => ⟨S9x2048x2x128, .fp8e4m3⟩
  | 66 => ⟨S9x2x2048x128, .fp8e4m3⟩
  | 67 => ⟨S9x2048x2x128, .fp8e4m3⟩
  | 68 => ⟨S9x2x2048x128, .fp8e4m3⟩
  | 69 => ⟨S8x9, .f32⟩
  | 70 => ⟨S2x9, .f32⟩
  | 71 => ⟨S2x9, .f32⟩
  | _ => ⟨S9x2048x1024, .bf16⟩

abbrev hbmTy (i : Nat) : BufTy := match i / 128 with
  | 0 => hbmTy0_0 i
  | 1 => hbmTy0_1 i
  | _ => ⟨S9x2048x1024, .bf16⟩

abbrev bufTy : (tb : Table) → Fin (tcTables nBuf tb) → BufTy
  | .hbm, ⟨i, _⟩ => hbmTy i
  | _, _ => ⟨S9x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_call2_v0 : Ref sig .tc := ⟨.hbm, 70, rfl⟩
abbrev main_call2_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_cst_14 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_v74 : Ref sig .tc := ⟨.hbm, 112, rfl⟩
abbrev main_v75 : Ref sig .tc := ⟨.hbm, 113, rfl⟩
abbrev main_cst_20 : Ref sig .tc := ⟨.hbm, 114, rfl⟩
abbrev main_call4_v0 : Ref sig .tc := ⟨.hbm, 115, rfl⟩
abbrev main_call4_v1 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_21 : Ref sig .tc := ⟨.hbm, 130, rfl⟩
abbrev main_cst_22 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_23 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_24 : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_v117 : Ref sig .tc := ⟨.hbm, 171, rfl⟩
abbrev main_cst_25 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_26 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩

abbrev nD : Nat := 1
abbrev τ : Topo := Topo.v7x

variable {F : FTy → Type} [FloatOps F]
-- ==== Proof.Tile.lean ====
/-
  One grid step of the kernel, in the order its body runs, for any float values.  A block of keys, of values and of four
  query heads is quantised (`codes`, `scaleOf`); each head's 2048 queries are taken 256 at a time (`tile`), and a tile of
  queries is attended against the key tiles its window reaches.  The scores of a tile lie in a scratch buffer and are read
  back, so the definitions carry the lists of stores.  `Pieces.lean` shows that what the body stores IS these terms.
-/
module

public import proofs.«01_k».proof.Proof.Gen.KernelIdeal.Frame.RunA

@[expose] public section

noncomputable section

namespace Cert.KernelIdeal.Tile

open Idealize.ShloMosaic Cert.KernelIdeal Cert.KernelIdeal.Gen Cert.KernelIdeal.Facts

variable {F : FTy → Type} [FloatOps F] [Named F]

/-! ## The quantiser -/

/-- The largest magnitude of a block, times `1/448`. -/
def amax (x : FVec F S2048x128 .bf16) : FVec F S1x1 .f32 :=
  mulf (shapeCast S1x1 (multiReduction .maximumf [1] S1
      (extf .f32 (shapeCast S1x128 (multiReduction .maximumf [0] S128 (absf x) 0xFF80#16 reduces_S2048x128_S128 (.inr rfl) rfl)
        shapeCasts_S128_S1x128) bitsLt_bf16_f32)
      0xFF800000#32 reduces_S1x128_S1 (.inl rfl) rfl) shapeCasts_S1_S1x1)
    (broadcast S1x1 (Scalar.ofBits .f32 0x3B124925#32))

/-- The candidates `0 … 255` for the exponent field. -/
def fields : IVec S1x256 32 := iota .tc S1x256 32 [1] iota_S1x256_d1_w32

/-- The exponent of the scale: the largest field whose power of two does not exceed `y`, less 126. -/
def expo (y : FVec F S1x1 .f32) : IVec S1x1 32 :=
  select (cmpf .oeq y (broadcast S1x1 (Scalar.ofBits .f32 0x00000000#32))) (broadcast S1x1 0#32)
    (subi (shapeCast S1x1 (multiReductionI .maxsi [1] S1
      (select (cmpf .ole (bitcastToFloat .f32 (shli fields (broadcast S1x256 23#32)))
        (broadcastTo S1x256 y broadcasts_S1x1_S1x256)) fields (broadcast S1x256 0#32))
      2147483648#32 reduces_S1x256_S1 rfl) shapeCasts_S1_S1x1) (broadcast S1x1 126#32))

/-- The scale `2 ^ e` of a block. -/
def scaleOf (x : FVec F S2048x128 .bf16) : FVec F S1x1 .f32 :=
  bitcastToFloat .f32 (shli (addi (expo (amax x)) (broadcast S1x1 127#32)) (broadcast S1x1 23#32))

/-- Its inverse `2 ^ (-e)`. -/
def invOf (x : FVec F S2048x128 .bf16) : FVec F S1x1 .f32 :=
  bitcastToFloat .f32 (shli (subi (broadcast S1x1 127#32) (expo (amax x))) (broadcast S1x1 23#32))

/-- The codes of a block. -/
def codes (x : FVec F S2048x128 .bf16) : FVec F S2048x128 .fp8e4m3 :=
  truncf .fp8e4m3 (minimumf (broadcast S2048x128 (Scalar.truncf .bf16 bitsLt_bf16_f32 (Scalar.ofBits .f32 0x43E00000#32)))
    (maximumf (broadcast S2048x128 (Scalar.truncf .bf16 bitsLt_bf16_f32 (Scalar.ofBits .f32 0xC3E00000#32)))
      (mulf x (broadcastTo S2048x128 (truncf .bf16 (invOf x) bitsLt_bf16_f32) broadcasts_S1x1_S2048x128)))) bitsLt_fp8e4m3_bf16

/-! ## One tile of 256 queries -/

/-- The scores of a tile of keys (down) against a tile of queries (across). -/
def score (k q : FVec F S256x128 .fp8e4m3) : FVec F S256x256 .f32 :=
  matmul dot_S256x128_S256x128_S256x256_1_1_0_0_n_n none k q (constant S256x256 .f32 0x00000000#32)

/-- Where the key is at or before the query, inside one tile. -/
def lower : IVec S256x256 1 :=
  cmpi .sle (iota .tc S256x256 32 [0] iota_S256x256_d0_w32) (iota .tc S256x256 32 [1] iota_S256x256_d1_w32)

/-- The largest score of each query. -/
def colMax (s : FVec F S256x256 .f32) : FVec F S1x256 .f32 :=
  shapeCast S1x256 (multiReduction .maximumf [0] S256 s 0xFF800000#32 reduces_S256x256_S256 (.inl rfl) rfl) shapeCasts_S256_S1x256

/-- The sum over the keys of each query. -/
def colSum (s : FVec F S256x256 .f32) : FVec F S1x256 .f32 :=
  shapeCast S1x256 (multiReduction .add [0] S256 s 0x00000000#32 reduces_S256x256_S256 (.inl rfl) rfl) shapeCasts_S256_S1x256

/-- The unnormalised probabilities `2 ^ ((s - m) c)`. -/
def prob (s : FVec F S256x256 .f32) (m : FVec F S1x256 .f32) (c : FVec F S1x1 .f32) : FVec F S256x256 .f32 :=
  exp2 (mulf (subf s (broadcastTo S256x256 m broadcasts_S1x256_S256x256)) (broadcastTo S256x256 c broadcasts_S1x1_S256x256))

/-- Adds a tile of values weighted by a tile of probabilities. -/
def addO (o : FVec F S128x256 .f32) (vt : FVec F S128x256 .fp8e4m3) (p : FVec F S256x256 .f32) : FVec F S128x256 .f32 :=
  addf o (matmul dot_S128x256_S256x256_S128x256_1_0_0_1_n_n none vt (truncf .fp8e4m3 p bitsLt_fp8e4m3_f32)
    (constant S128x256 .f32 0x00000000#32))

/-- Scales by the value scale over the row sums and stores queries down. -/
def finish (o : FVec F S128x256 .f32) (l : FVec F S1x256 .f32) (vs : FVec F S1x1 .f32) : FVec F S1x256x128 .bf16 :=
  shapeCast S1x256x128 (truncf .bf16 (transpose S256x128 [1, 0]
    (mulf o (broadcastTo S128x256 (divf (broadcastTo S1x256 vs broadcasts_S1x1_S1x256) l) broadcasts_S1x256_S128x256))
    transposes_S128x256_p1_0_S256x128) bitsLt_bf16_f32) shapeCasts_S256x128_S1x256x128

/-- The zero tile of probabilities, of sums and of outputs. -/
def zeroP : FVec F S256x256 .f32 := broadcast S256x256 (Scalar.ofBits .f32 0x00000000#32)
def zeroL : FVec F S1x256 .f32 := broadcast S1x256 (Scalar.ofBits .f32 0x00000000#32)
def zeroO : FVec F S128x256 .f32 := broadcast S128x256 (Scalar.ofBits .f32 0x00000000#32)

/-- The scores of the tile on the diagonal: above the diagonal either nothing, or the tile at the far end of the window,
    of which exactly that part is in reach. -/
def diag (far : Bool) (kD kF q : FVec F S256x128 .fp8e4m3) : FVec F S256x256 .f32 :=
  match far with
  | true => select lower (score kD q) (score kF q)
  | false => select lower (score kD q) (broadcast S256x256 (Scalar.ofBits .f32 0xFF800000#32))

/-- Slot `i` of the score buffer. -/
theorem slot_inb (i : ℕ) : ∀ a, (![256 * (i % 4), 0] : Fin 2 → ℕ) a + S256x256.size a ≤ S1024x256.size a := by
  intro a; fin_cases a
  · show 256 * (i % 4) + 256 ≤ 1024; omega
  · show 0 + 256 ≤ 256; omega
def slot (i : ℕ) : Rect S1024x256 := Rect.unit ![256 * (i % 4), 0] S256x256.size (slot_inb i)

/-- The stores of the diagonal's scores and of `n` full tiles' scores, last first, over earlier stores. -/
def stores (L : List (View.Piece (Elt F) S1024x256 .f32)) (sd : FVec F S256x256 .f32) (sc : ℕ → FVec F S256x256 .f32) :
    ℕ → List (View.Piece (Elt F) S1024x256 .f32)
  | 0 => ⟨slot 0, shapeCast S256x256 sd shapeCasts_S256x256_S256x256⟩ :: L
  | i + 1 => ⟨slot (i + 1), shapeCast S256x256 (sc i) shapeCasts_S256x256_S256x256⟩ :: stores L sd sc i

/-- The running maximum after `n` full tiles. -/
def runMax (sd : FVec F S256x256 .f32) (sc : ℕ → FVec F S256x256 .f32) : ℕ → FVec F S1x256 .f32
  | 0 => colMax sd
  | i + 1 => maximumf (runMax sd sc i) (colMax (sc i))

/-- The running sum after `n` full tiles. -/
def runSum (p : ℕ → FVec F S256x256 .f32) : ℕ → FVec F S1x256 .f32
  | 0 => addf zeroL (colSum (p 0))
  | i + 1 => addf (runSum p i) (colSum (p (i + 1)))

/-- The running output after `n` full tiles. -/
def runOut (far : Bool) (p : ℕ → FVec F S256x256 .f32) (vD vF : FVec F S128x256 .fp8e4m3) (vc : ℕ → FVec F S128x256 .fp8e4m3) :
    ℕ → FVec F S128x256 .f32
  | 0 => match far with
    | true => addO (addO zeroO vD (select lower (p 0) zeroP)) vF (select lower zeroP (p 0))
    | false => addO zeroO vD (select lower (p 0) zeroP)
  | i + 1 => addO (runOut far p vD vF vc i) (vc i) (p (i + 1))

/-- One tile of queries: the diagonal, `n` full tiles and, for `far`, the tile at the window's end. -/
def attend (a13 : Memref sig .tc .vmem S1024x256 .f32) (far : Bool) (n : ℕ) (q kD kF : FVec F S256x128 .fp8e4m3)
    (kc : ℕ → FVec F S256x128 .fp8e4m3) (vD vF : FVec F S128x256 .fp8e4m3) (vc : ℕ → FVec F S128x256 .fp8e4m3)
    (c vs : FVec F S1x1 .f32) (L : List (View.Piece (Elt F) S1024x256 .f32)) : FVec F S1x256x128 .bf16 :=
  finish
    (runOut far (fun i => prob (a13.view.readCov (stores L (diag far kD kF q) (fun i => score (kc i) q) n) (slot i).toLoadRect)
      (runMax (diag far kD kF q) (fun i => score (kc i) q) n) c) vD vF vc n)
    (runSum (fun i => prob (a13.view.readCov (stores L (diag far kD kF q) (fun i => score (kc i) q) n) (slot i).toLoadRect)
      (runMax (diag far kD kF q) (fun i => score (kc i) q) n) c) n) vs

/-! ## The stores of one grid step, and the tiles read back from them -/

section Step

variable (a6 : Memref sig .tc .vmem S1x2048x512 .fp8e4m3) (a7 : Memref sig .tc .vmem S1x1x2048x128 .fp8e4m3)
  (a12 : Memref sig .tc .vmem S128x2048 .fp8e4m3) (a13 : Memref sig .tc .vmem S1024x256 .f32)
  (xq : ℕ → FVec F S2048x128 .bf16) (xk xv : FVec F S2048x128 .bf16)

/-- The columns of head `h`. -/
theorem headRect_inb (h : ℕ) : ∀ a, (![0, 0, 128 * (h % 4)] : Fin 3 → ℕ) a + S1x2048x128.size a ≤ S1x2048x512.size a := by
  intro a; fin_cases a
  · show 0 + 1 ≤ 1; omega
  · show 0 + 2048 ≤ 2048; omega
  · show 128 * (h % 4) + 128 ≤ 512; omega
def headRect (h : ℕ) : Rect S1x2048x512 := Rect.unit ![0, 0, 128 * (h % 4)] S1x2048x128.size (headRect_inb h)

/-- Tile `t` of the queries of head `h`. -/
theorem tileRect_inb (h t : ℕ) :
    ∀ a, (![0, 256 * (t % 8), 128 * (h % 4)] : Fin 3 → ℕ) a + S1x256x128.size a ≤ S1x2048x512.size a := by
  intro a; fin_cases a
  · show 0 + 1 ≤ 1; omega
  · show 256 * (t % 8) + 256 ≤ 2048; omega
  · show 128 * (h % 4) + 128 ≤ 512; omega
def tileRect (h t : ℕ) : Rect S1x2048x512 := Rect.unit ![0, 256 * (t % 8), 128 * (h % 4)] S1x256x128.size (tileRect_inb h t)

/-- Tile `t` of the keys. -/
theorem keyRect_inb (t : ℕ) :
    ∀ a, (![0, 0, 256 * (t % 8), 0] : Fin 4 → ℕ) a + S1x1x256x128.size a ≤ S1x1x2048x128.size a := by
  intro a; fin_cases a
  · show 0 + 1 ≤ 1; omega
  · show 0 + 1 ≤ 1; omega
  · show 256 * (t % 8) + 256 ≤ 2048; omega
  · show 0 + 128 ≤ 128; omega
def keyRect (t : ℕ) : Rect S1x1x2048x128 := Rect.unit ![0, 0, 256 * (t % 8), 0] S1x1x256x128.size (keyRect_inb t)

/-- Tile `t` of the transposed values. -/
theorem valRect_inb (t : ℕ) : ∀ a, (![0, 256 * (t % 8)] : Fin 2 → ℕ) a + S128x256.size a ≤ S128x2048.size a := by
  intro a; fin_cases a
  · show 0 + 128 ≤ 128; omega
  · show 256 * (t % 8) + 256 ≤ 2048; omega
def valRect (t : ℕ) : Rect S128x2048 := Rect.unit ![0, 256 * (t % 8)] S128x256.size (valRect_inb t)

/-- The stores of the query codes of heads `0 … h`, last first. -/
def qPieces : ℕ → List (View.Piece (Elt F) S1x2048x512 .fp8e4m3)
  | 0 => [⟨headRect 0, shapeCast S1x2048x128 (codes (xq 0)) shapeCasts_S2048x128_S1x2048x128⟩]
  | h + 1 => ⟨headRect (h + 1), shapeCast S1x2048x128 (codes (xq (h + 1))) shapeCasts_S2048x128_S1x2048x128⟩ :: qPieces h

/-- The store of a block's codes, for the keys or for the values. -/
theorem cPieces_inb : ∀ a, (![0, 0, 0, 0] : Fin 4 → ℕ) a + S1x1x2048x128.size a ≤ S1x1x2048x128.size a := by
  intro a; fin_cases a <;> exact le_of_eq (Nat.zero_add _)
def cPieces (x : FVec F S2048x128 .bf16) : List (View.Piece (Elt F) S1x1x2048x128 .fp8e4m3) :=
  [⟨Rect.unit ![0, 0, 0, 0] S1x1x2048x128.size cPieces_inb, shapeCast S1x1x2048x128 (codes x) shapeCasts_S2048x128_S1x1x2048x128⟩]

/-- The store of the transposed value codes. -/
theorem vtPieces_inb : ∀ a, (![0, 0] : Fin 2 → ℕ) a + S128x2048.size a ≤ S128x2048.size a := by
  intro a; fin_cases a <;> exact le_of_eq (Nat.zero_add _)
def vtPieces : List (View.Piece (Elt F) S128x2048 .fp8e4m3) :=
  [⟨Rect.unit ![0, 0] S128x2048.size vtPieces_inb, shapeCast S128x2048
    (transpose S128x2048 [1, 0] (codes xv) transposes_S2048x128_p1_0_S128x2048) shapeCasts_S128x2048_S128x2048⟩]

/-- Tile `t` of the query codes of head `h`, read back. -/
def qT (h t : ℕ) : FVec F S256x128 .fp8e4m3 :=
  shapeCast S256x128 (a6.view.readCov (qPieces xq h) (tileRect h t).toLoadRect) shapeCasts_S1x256x128_S256x128

/-- Tile `t` of the key codes, read back. -/
def kT (t : ℕ) : FVec F S256x128 .fp8e4m3 :=
  shapeCast S256x128 (a7.view.readCov (cPieces xk) (keyRect t).toLoadRect) shapeCasts_S1x1x256x128_S256x128

/-- Tile `t` of the transposed value codes, read back. -/
def vT (t : ℕ) : FVec F S128x256 .fp8e4m3 := a12.view.readCov (vtPieces xv) (valRect t).toLoadRect

/-- The factor on the scores of head `h`. -/
def factor (h : ℕ) : FVec F S1x1 .f32 :=
  mulf (mulf (scaleOf (xq h)) (scaleOf xk)) (broadcast S1x1 (Named.named κ "sm_scale_log2e" 0x3E0293EE#32))

/-- The output of tile `t` of head `h`, over earlier stores `L` of scores.  Of the full tiles there are
    `n = min t 3`, from tile `t - n` on. -/
def tile (h t : ℕ) (L : List (View.Piece (Elt F) S1024x256 .f32)) : FVec F S1x256x128 .bf16 :=
  attend a13 (Nat.ble 4 t) (min t 3) (qT a6 xq h t) (kT a7 xk t) (kT a7 xk (t - 4)) (fun i => kT a7 xk (t - min t 3 + i))
    (vT a12 xv t) (vT a12 xv (t - 4)) (fun i => vT a12 xv (t - min t 3 + i)) (factor xq xk h) (scaleOf xv) L

/-- The stores of the output, last first: tile `j % 8` of head `j / 8`, over the scores stored before. -/
def outs (Ls : ℕ → List (View.Piece (Elt F) S1024x256 .f32)) : ℕ → List (View.Piece (Elt F) S1x2048x512 .bf16)
  | 0 => []
  | j + 1 => ⟨tileRect (j / 8) (j % 8), tile a6 a7 a12 a13 xq xk xv (j / 8) (j % 8) (Ls j)⟩ :: outs Ls j

end Step

end Cert.KernelIdeal.Tile

end
-- ==== Proof.Quant.lean ====
/-
  The quantiser over the reals.  The kernel finds its exponent as the largest exponent field whose power of two does not
  exceed `y = max |t| / 448`; the reference takes `⌊log₂ y⌋ + 1`.  Both are `qexp`, for `max |t|` zero or in the range where
  the power of two is a normal number.
-/
module

public import proofs.«01_k».proof.Proof.Tile
public import Idealize.ShloMosaic.Lib.Pointwise
public import Idealize.ShloMosaic.Lib.IdealHost
public import Idealize.ShloMosaic.Lib.SortNet.Extract
public import Mathlib.Analysis.SpecialFunctions.Log.Basic

@[expose] public section

noncomputable section

namespace Cert.Quant

open Idealize.ShloMosaic

/-- The 32-bit rounding of `1/448`. -/
def kap : ℝ := 9586981 / 2 ^ 32

theorem kap_pos : 0 < kap := by unfold kap; norm_num

theorem ofBits_kap : Ideal.ofBits .f32 0x3B124925#32 = ((kap : ℝ) : EReal) := by
  unfold kap
  simp [Ideal.ofBits, Ideal.ieee, -EReal.coe_mul]; norm_num

/-- The logarithm to base two. -/
def lg (y : ℝ) : ℝ := Real.log y / Real.log 2

theorem zpow_le_iff {y : ℝ} (hy : 0 < y) (n : ℤ) : (n : ℝ) ≤ lg y ↔ (2 : ℝ) ^ n ≤ y := by
  unfold lg
  rw [le_div_iff₀ (Real.log_pos (by norm_num)), ← Real.log_zpow, Real.log_le_log_iff (by positivity) hy]

theorem lt_zpow_iff {y : ℝ} (hy : 0 < y) (n : ℤ) : lg y < (n : ℝ) ↔ y < (2 : ℝ) ^ n := by
  rw [← not_le, zpow_le_iff hy, not_le]

/-- The exponent of the scale of a block whose largest magnitude is `a`. -/
def qexp (a : ℝ) : ℤ := if a = 0 then 0 else ⌊lg (a * kap)⌋ + 1

/-- The largest magnitudes the claim speaks of. -/
def Ok (a : ℝ) : Prop := a = 0 ∨ ((2 : ℝ) ^ (-118 : ℤ) ≤ a ∧ a ≤ (2 : ℝ) ^ (128 : ℤ))

theorem Ok.pos {a : ℝ} (h : Ok a) (h0 : a ≠ 0) : 0 < a := by
  rcases h with h | h
  · exact absurd h h0
  · exact lt_of_lt_of_le (by positivity) h.1

/-- The exponent lies strictly between `-127` and `122`. -/
theorem qexp_bounds {a : ℝ} (h : Ok a) : -127 < qexp a ∧ qexp a < 122 := by
  by_cases h0 : a = 0
  · simp [qexp, h0]
  have hp := mul_pos (h.pos h0) kap_pos
  have hr := h.resolve_left h0
  have hk1 : (2 : ℝ) ^ (-9 : ℤ) ≤ kap := by unfold kap; norm_num
  have hk2 : kap ≤ (2 : ℝ) ^ (-8 : ℤ) := by unfold kap; norm_num
  have h1 : ((-127 : ℤ) : ℝ) ≤ lg (a * kap) := by
    rw [zpow_le_iff hp]
    calc (2 : ℝ) ^ (-127 : ℤ) = (2 : ℝ) ^ (-118 : ℤ) * (2 : ℝ) ^ (-9 : ℤ) := by norm_num
      _ ≤ a * kap := mul_le_mul hr.1 hk1 (by positivity) (h.pos h0).le
  have h2 : lg (a * kap) < ((121 : ℤ) : ℝ) := by
    rw [lt_zpow_iff hp]
    calc a * kap ≤ (2 : ℝ) ^ (128 : ℤ) * (2 : ℝ) ^ (-8 : ℤ) := mul_le_mul hr.2 hk2 kap_pos.le (by positivity)
      _ < (2 : ℝ) ^ (121 : ℤ) := by norm_num
  have h3 : -127 ≤ ⌊lg (a * kap)⌋ := Int.le_floor.mpr h1
  have h4 : ⌊lg (a * kap)⌋ < 121 := Int.floor_lt.mpr h2
  simp only [qexp, if_neg h0]; omega

/-- `2 ^ (qexp a - 1) ≤ a / 448 < 2 ^ (qexp a)`. -/
theorem qexp_spec {a : ℝ} (h : Ok a) (h0 : a ≠ 0) :
    (2 : ℝ) ^ (qexp a - 1) ≤ a * kap ∧ a * kap < (2 : ℝ) ^ qexp a := by
  have hp := mul_pos (h.pos h0) kap_pos
  simp only [qexp, if_neg h0, add_sub_cancel_right]
  constructor
  · rw [← zpow_le_iff hp]
    exact Int.floor_le _
  · rw [← lt_zpow_iff hp]
    push_cast
    exact Int.lt_floor_add_one _

/-- The number whose exponent field is `n` and whose other bits are zero. -/
theorem ofBits_field (n : ℕ) (h0 : 1 ≤ n) (h1 : n ≤ 254) :
    Ideal.ofBits .f32 (BitVec.ofNat 32 n <<< (23 : ℕ)) = (((2 : ℝ) ^ ((n : ℤ) - 127) : ℝ) : EReal) := by
  have hex : ((BitVec.ofNat 32 n <<< (23 : ℕ)).extractLsb' 23 8).toNat = n :=
    (by decide +kernel : ∀ n : Fin 255, ((BitVec.ofNat 32 n.val <<< (23 : ℕ)).extractLsb' 23 8).toNat = n.val) ⟨n, by omega⟩
  have hfr : ((BitVec.ofNat 32 n <<< (23 : ℕ)).extractLsb' 0 23).toNat = 0 :=
    (by decide +kernel : ∀ n : Fin 255, ((BitVec.ofNat 32 n.val <<< (23 : ℕ)).extractLsb' 0 23).toNat = 0) ⟨n, by omega⟩
  have hsg : ((BitVec.ofNat 32 n <<< (23 : ℕ)).extractLsb' 31 1 == 1#1) = false :=
    (by decide +kernel : ∀ n : Fin 255, ((BitVec.ofNat 32 n.val <<< (23 : ℕ)).extractLsb' 31 1 == 1#1) = false) ⟨n, by omega⟩
  show Ideal.ieee 8 23 (BitVec.ofNat 32 n <<< (23 : ℕ)) = _
  generalize BitVec.ofNat 32 n <<< (23 : ℕ) = b at hex hfr hsg
  unfold Ideal.ieee
  simp only [hex, hfr, hsg]
  rw [if_neg (by omega), if_neg (by omega), show ((n : ℤ) - 127 : ℤ) = 23 + ((n : ℤ) - (2 ^ (8 - 1) - 1) - (23 : ℕ)) by norm_num,
    zpow_add₀ (by norm_num)]
  norm_num

theorem ofBits_field_zero : Ideal.ofBits .f32 (BitVec.ofNat 32 0 <<< (23 : ℕ)) = 0 := by
  simp [Ideal.ofBits, Ideal.ieee]

theorem ofBits_field_top : Ideal.ofBits .f32 (BitVec.ofNat 32 255 <<< (23 : ℕ)) = ⊤ := by
  simp [Ideal.ofBits, Ideal.ieee]

/-- The power of two of field `k` does not exceed `y` exactly up to the exponent of `y`. -/
theorem field_le_iff {y : ℝ} {n : ℕ} (hn : n ≤ 254) (h1 : (2 : ℝ) ^ ((n : ℤ) - 127) ≤ y)
    (h2 : y < (2 : ℝ) ^ ((n : ℤ) - 126)) (k : ℕ) (hk : k < 256) :
    Ideal.ofBits .f32 (BitVec.ofNat 32 k <<< (23 : ℕ)) ≤ ((y : ℝ) : EReal) ↔ k ≤ n := by
  have hy : 0 < y := lt_of_lt_of_le (by positivity) h1
  rcases Nat.eq_zero_or_pos k with rfl | h0
  · rw [ofBits_field_zero]; exact ⟨fun _ => Nat.zero_le _, fun _ => by exact_mod_cast hy.le⟩
  rcases Nat.lt_or_ge k 255 with h3 | h3
  · rw [ofBits_field k h0 (by omega), EReal.coe_le_coe_iff]
    constructor
    · intro h
      by_contra hc
      have : (2 : ℝ) ^ ((n : ℤ) - 126) ≤ (2 : ℝ) ^ ((k : ℤ) - 127) := zpow_le_zpow_right₀ (by norm_num) (by omega)
      linarith
    · intro h
      exact le_trans (zpow_le_zpow_right₀ (by norm_num) (by omega)) h1
  · obtain rfl : k = 255 := by omega
    rw [ofBits_field_top]
    exact ⟨fun h => absurd (top_le_iff.mp h) (EReal.coe_ne_top _), fun h => by omega⟩

/-- The largest field met. -/
theorem fold_field (g : Fin 256 → BitVec 32) (n : ℕ) (hn : n < 256)
    (h : ∀ k : Fin 256, g k = if k.val ≤ n then BitVec.ofNat 32 k.val else 0#32) :
    Finset.univ.fold IntOp.maxsi 2147483648#32 g = BitVec.ofNat 32 n := by
  have hk : ∀ k : ℕ, k < 256 → (BitVec.ofNat 32 k).toInt = k := fun k hk =>
    (by decide +kernel : ∀ k : Fin 256, (BitVec.ofNat 32 k.val).toInt = (k.val : ℤ)) ⟨k, hk⟩
  obtain ⟨-, h2, h3⟩ := SortNet.fold_maxsi_spec g Finset.univ 2147483648#32
  have hg := h2 ⟨n, hn⟩ (Finset.mem_univ _)
  rw [h ⟨n, hn⟩, if_pos (le_refl n), hk n hn] at hg
  apply BitVec.eq_of_toInt_eq
  rw [hk n hn]
  refine le_antisymm ?_ hg
  rcases h3 with h3 | ⟨k, -, h3⟩
  · rw [h3]; exact le_trans (by decide : (2147483648#32 : BitVec 32).toInt ≤ 0) (by omega)
  · rw [h3, h k]
    split_ifs with hc
    · rw [hk k.val k.isLt]; exact_mod_cast hc
    · simp

end Cert.Quant

namespace Cert.KernelIdeal.Tile

open Idealize.ShloMosaic Cert.KernelIdeal Cert.KernelIdeal.Gen Cert.KernelIdeal.Facts Cert.Quant

theorem expo_apply (y : FVec Ideal S1x1 .f32) (a : ℝ) (h : Ok a) (hy : ∀ j, y j = ((a * kap : ℝ) : EReal)) (j : S1x1.Idx) :
    expo y j = BitVec.ofInt 32 (qexp a) := by
  unfold expo fields
  pointwise
  have hs : ∀ k : Fin 256, IntOp.shli ArithUnit.vector (BitVec.ofNat 32 k.val) 23#32 = BitVec.ofNat 32 k.val <<< (23 : ℕ) :=
    fun k => rfl
  by_cases h0 : a = 0
  · rw [if_pos (by rw [hy, h0]; simp)]; simp [qexp, h0]
  have hp := mul_pos (h.pos h0) kap_pos
  rw [if_neg (by rw [hy]; exact_mod_cast hp.ne')]
  obtain ⟨b1, b2⟩ := qexp_bounds h
  obtain ⟨s1, s2⟩ := qexp_spec h h0
  obtain ⟨n, hn⟩ : ∃ n : ℕ, qexp a = (n : ℤ) - 126 := ⟨(qexp a + 126).toNat, by omega⟩
  rw [fold_field _ n (by omega) ?_, hn]
  · exact (by decide +kernel : ∀ n : Fin 256, IntOp.subi (BitVec.ofNat 32 n.val) 126#32 = BitVec.ofInt 32 ((n.val : ℤ) - 126))
      ⟨n, by omega⟩
  · intro k
    rw [hs, hy]
    refine if_congr ?_ rfl rfl
    refine field_le_iff (by omega) ?_ ?_ k.val k.isLt
    · rw [hn] at s1; exact (by ring : (n : ℤ) - 126 - 1 = (n : ℤ) - 127) ▸ s1
    · rw [hn] at s2; exact s2

/-- The pattern of exponent `e`, read as a number, is `2 ^ e`. -/
theorem ofBits_exp (e : ℤ) (h1 : -126 ≤ e) (h2 : e ≤ 127) :
    Ideal.ofBits .f32 (IntOp.shli ArithUnit.vector (IntOp.addi (BitVec.ofInt 32 e) 127#32) 23#32) = (((2 : ℝ) ^ e : ℝ) : EReal) := by
  obtain ⟨n, rfl⟩ : ∃ n : ℕ, e = (n : ℤ) - 127 := ⟨(e + 127).toNat, by omega⟩
  rw [← ofBits_field n (by omega) (by omega)]
  exact congrArg _ ((by decide +kernel : ∀ n : Fin 256, IntOp.shli ArithUnit.vector
    (IntOp.addi (BitVec.ofInt 32 ((n.val : ℤ) - 127)) 127#32) 23#32 = BitVec.ofNat 32 n.val <<< (23 : ℕ)) ⟨n, by omega⟩)

theorem ofBits_exp_neg (e : ℤ) (h1 : -127 ≤ e) (h2 : e ≤ 126) :
    Ideal.ofBits .f32 (IntOp.shli ArithUnit.vector (IntOp.subi 127#32 (BitVec.ofInt 32 e)) 23#32) = (((2 : ℝ) ^ (-e) : ℝ) : EReal) := by
  obtain ⟨n, rfl⟩ : ∃ n : ℕ, e = 127 - (n : ℤ) := ⟨(127 - e).toNat, by omega⟩
  rw [show -(127 - (n : ℤ)) = (n : ℤ) - 127 by ring, ← ofBits_field n (by omega) (by omega)]
  exact congrArg _ ((by decide +kernel : ∀ n : Fin 256, IntOp.shli ArithUnit.vector
    (IntOp.subi 127#32 (BitVec.ofInt 32 (127 - (n.val : ℤ)))) 23#32 = BitVec.ofNat 32 n.val <<< (23 : ℕ)) ⟨n, by omega⟩)

end Cert.KernelIdeal.Tile

namespace Cert.Quant

open Idealize.ShloMosaic

/-- A maximum started from `-∞` is any upper bound that is attained. -/
theorem fold_max_eq {ι : Type} [Fintype ι] (g : ι → EReal) (a : EReal) (h : ∀ i, g i ≤ a) (h2 : ∃ i, g i = a) :
    Finset.univ.fold max ⊥ g = a := by
  obtain ⟨i, hi⟩ := h2
  exact le_antisymm (Finset.sup_le (f := g) fun i _ => h i) (hi ▸ Finset.le_sup (f := g) (Finset.mem_univ i))

theorem ofBits_neg_inf : Ideal.ofBits .f32 0xFF800000#32 = ⊥ := by simp [Ideal.ofBits, Ideal.ieee]
theorem ofBits_neg_inf_bf16 : Ideal.ofBits .bf16 0xFF80#16 = ⊥ := by simp [Ideal.ofBits, Ideal.ieee]
theorem ofBits_448 : Ideal.ofBits .f32 0x43E00000#32 = ((448 : ℝ) : EReal) := by
  simp [Ideal.ofBits, Ideal.ieee, -EReal.coe_mul]; norm_num
theorem ofBits_neg_448 : Ideal.ofBits .f32 0xC3E00000#32 = ((-448 : ℝ) : EReal) := by
  simp [Ideal.ofBits, Ideal.ieee, -EReal.coe_mul]; norm_num

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

theorem abs_coe' (r : ℝ) : max (r : EReal) (-(r : EReal)) = ((|r| : ℝ) : EReal) := by
  rw [← EReal.coe_neg, ← coe_max']; rfl

/-- The largest magnitude of a block of 2048 rows of 128. -/
def mag (f : Fin 2048 → Fin 128 → ℝ) : ℝ :=
  Finset.univ.sup' ⟨((0 : Fin 2048), (0 : Fin 128)), Finset.mem_univ _⟩ fun p : Fin 2048 × Fin 128 => |f p.1 p.2|

theorem le_mag (f : Fin 2048 → Fin 128 → ℝ) (i : Fin 2048) (d : Fin 128) : |f i d| ≤ mag f :=
  Finset.le_sup' (fun p : Fin 2048 × Fin 128 => |f p.1 p.2|) (Finset.mem_univ (i, d))

theorem mag_mem (f : Fin 2048 → Fin 128 → ℝ) : ∃ i d, |f i d| = mag f := by
  obtain ⟨p, _, hp⟩ := Finset.exists_mem_eq_sup' ⟨((0 : Fin 2048), (0 : Fin 128)), Finset.mem_univ _⟩
    fun p : Fin 2048 × Fin 128 => |f p.1 p.2|
  exact ⟨p.1, p.2, hp.symm⟩

/-- The scale of a block. -/
def scl (f : Fin 2048 → Fin 128 → ℝ) : ℝ := (2 : ℝ) ^ qexp (mag f)

theorem scl_pos (f : Fin 2048 → Fin 128 → ℝ) : 0 < scl f := by unfold scl; positivity

/-- The codes of a block. -/
def cod (f : Fin 2048 → Fin 128 → ℝ) (i : Fin 2048) (d : Fin 128) : ℝ :=
  min 448 (max (-448) (f i d * (2 : ℝ) ^ (-qexp (mag f))))

/-- The largest magnitude of the block is one the claim speaks of. -/
def OkBlock (f : Fin 2048 → Fin 128 → ℝ) : Prop := Ok (mag f)

theorem OkBlock.mag {f : Fin 2048 → Fin 128 → ℝ} (h : OkBlock f) : Ok (mag f) := h

end Cert.Quant

namespace Cert.KernelIdeal.Tile

open Cert.Quant Idealize.ShloMosaic Cert.KernelIdeal Cert.KernelIdeal.Gen Cert.KernelIdeal.Facts

section Block

variable {x : FVec Ideal S2048x128 .bf16} {f : Fin 2048 → Fin 128 → ℝ} (hx : ∀ i d, x (ix2 i d) = ((f i d : ℝ) : EReal))

include hx

theorem amax_apply (j : S1x1.Idx) : amax x j = ((mag f * kap : ℝ) : EReal) := by
  unfold amax
  pointwise
  rw [EReal.coe_mul]
  refine congrArg₂ (· * ·) ?_ ofBits_kap
  have habs : ∀ i d, FloatOps.absf (x (ix2 i d)) = ((|f i d| : ℝ) : EReal) := fun i d => by
    rw [hx]; exact abs_coe' _
  simp only [habs, ofBits_neg_inf, ofBits_neg_inf_bf16]
  obtain ⟨i0, d0, e0⟩ := mag_mem f
  refine fold_max_eq _ _ (fun d => ?_) ⟨d0, ?_⟩
  · exact Finset.sup_le (f := fun i => ((|f i d| : ℝ) : EReal)) fun i _ => EReal.coe_le_coe (le_mag f i d)
  · exact fold_max_eq _ _ (fun i => EReal.coe_le_coe (le_mag f i d0)) ⟨i0, congrArg _ e0⟩

variable (h : OkBlock f)

include h

theorem scaleOf_apply (j : S1x1.Idx) : scaleOf x j = ((scl f : ℝ) : EReal) := by
  obtain ⟨b1, b2⟩ := qexp_bounds h.mag
  unfold scl
  rw [← ofBits_exp (qexp (mag f)) (by omega) (by omega), ← expo_apply (amax x) (mag f) h.mag (amax_apply hx) j]
  rfl

theorem invOf_apply (j : S1x1.Idx) : invOf x j = (((2 : ℝ) ^ (-qexp (mag f)) : ℝ) : EReal) := by
  obtain ⟨b1, b2⟩ := qexp_bounds h.mag
  rw [← ofBits_exp_neg (qexp (mag f)) (by omega) (by omega), ← expo_apply (amax x) (mag f) h.mag (amax_apply hx) j]
  rfl

theorem codes_apply (i : Fin 2048) (d : Fin 128) : codes x (ix2 i d) = ((cod f i d : ℝ) : EReal) := by
  unfold codes cod
  pointwise
  rw [coe_min', coe_max', EReal.coe_mul]
  refine congrArg₂ min ofBits_448 (congrArg₂ max ofBits_neg_448 (congrArg₂ (· * ·) (hx i d) (invOf_apply hx h _)))

end Block

end Cert.KernelIdeal.Tile

end
-- ==== Proof.TileValue.lean ====
/-
  The value of one tile of 256 queries over the reals.  `attend` works with scores, a maximum and powers of two; over real
  scores it is the sum of the visible keys' values weighted by `exp (γ log 2 · score)` over the sum of the weights, times the
  scale of the values: the maximum subtracted from every score of a query cancels.
-/
module

public import proofs.«01_k».proof.Proof.Quant
public import Idealize.ShloMosaic.Lib.MatmulPlain

@[expose] public section

noncomputable section

namespace Cert.Quant

/-- A sum of reals, taken over the extended reals. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A maximum of scores none of which is `∞` and one of which is not `-∞` is a real number. -/
theorem fold_max_real {ι : Type} [Fintype ι] (g : ι → EReal) (h : ∀ i, g i ≠ ⊤) (h2 : ∃ i, g i ≠ ⊥) :
    ∃ r : ℝ, Finset.univ.fold max ⊥ g = (r : EReal) := by
  obtain ⟨i, hi⟩ := h2
  have ht : Finset.univ.fold max ⊥ g < ⊤ :=
    (Finset.sup_lt_iff (f := g) (by exact bot_lt_top)).2 fun i _ => lt_top_iff_ne_top.2 (h i)
  have hb : ⊥ < Finset.univ.fold max ⊥ g :=
    lt_of_lt_of_le (bot_lt_iff_ne_bot.2 hi) (Finset.le_sup (f := g) (Finset.mem_univ i))
  exact ⟨_, (EReal.coe_toReal ht.ne hb.ne').symm⟩

end Cert.Quant

namespace Cert.KernelIdeal.Tile

open Cert.Quant Idealize.ShloMosaic Cert.KernelIdeal Cert.KernelIdeal.Gen Cert.KernelIdeal.Facts

/-! ## The operations of a tile, at an index -/

theorem score_apply (k q : FVec Ideal S256x128 .fp8e4m3) (y x : Fin 256) :
    score k q (ix2 y x) = ∑ d : Fin 128, k (ix2 y d) * q (ix2 x d) := by
  unfold score
  refine Eq.trans (Ideal.matmul_transposedRhs_apply (M := 256) (K := 128) (N := 256) none k q
    (constant S256x256 .f32 0x00000000#32) y x) ?_
  pointwise
  simp only [ix2_eq_valueIdx]

theorem addO_apply (o : FVec Ideal S128x256 .f32) (vt : FVec Ideal S128x256 .fp8e4m3) (p : FVec Ideal S256x256 .f32)
    (d : Fin 128) (x : Fin 256) :
    addO o vt p (ix2 d x) = o (ix2 d x) + ∑ y : Fin 256, vt (ix2 d y) * p (ix2 y x) := by
  unfold addO
  pointwise

theorem colMax_apply (s : FVec Ideal S256x256 .f32) (x : Fin 256) :
    colMax s (ix2 0 x) = Finset.univ.fold max ⊥ fun y => s (ix2 y x) := by
  unfold colMax
  pointwise
  rw [ofBits_neg_inf]

theorem colSum_apply (s : FVec Ideal S256x256 .f32) (x : Fin 256) : colSum s (ix2 0 x) = ∑ y : Fin 256, s (ix2 y x) := by
  unfold colSum
  pointwise

theorem prob_apply (s : FVec Ideal S256x256 .f32) (m : FVec Ideal S1x256 .f32) (c : FVec Ideal S1x1 .f32) (y x : Fin 256) :
    prob s m c (ix2 y x) = Ideal.exp2 ((s (ix2 y x) - m (ix2 0 x)) * c (ix2 0 0)) := by
  unfold prob
  pointwise
  rfl

theorem finish_apply (o : FVec Ideal S128x256 .f32) (l : FVec Ideal S1x256 .f32) (vs : FVec Ideal S1x1 .f32)
    (z : Fin 1) (x : Fin 256) (d : Fin 128) :
    finish o l vs (ix3 z x d) = o (ix2 d x) * Ideal.div (vs (ix2 0 0)) (l (ix2 0 x)) := by
  unfold finish
  pointwise

theorem select_lower (a b : FVec Ideal S256x256 .f32) (y x : Fin 256) :
    select lower a b (ix2 y x) = if y ≤ x then a (ix2 y x) else b (ix2 y x) := by
  unfold lower
  pointwise
  have h1 := y.isLt
  have h2 := x.isLt
  rw [WordCmp.cmpi_sle_ofNat (by omega) (by omega)]
  by_cases h : y ≤ x
  · simp [Scalar.select, h]
  · simp [Scalar.select, h]

/-! ## The scores read back -/

theorem slot_disjoint {i j : ℕ} (hi : i < 4) (hj : j < 4) (hij : i ≠ j) : Disjoint (slot i).set (slot j).toLoadRect.set := by
  rw [Finset.disjoint_left]
  intro y h1 h2
  have a1 : 256 * (i % 4) ≤ (y 0).val ∧ (y 0).val < 256 * (i % 4) + 256 := (Rect.mem_set_unit).1 h1 0
  have a2 : 256 * (j % 4) ≤ (y 0).val ∧ (y 0).val < 256 * (j % 4) + 256 := (Rect.mem_set_unit).1 h2 0
  omega

/-- The scores of slot `i`. -/
def slotScore (sd : FVec Ideal S256x256 .f32) (sc : ℕ → FVec Ideal S256x256 .f32) : ℕ → FVec Ideal S256x256 .f32
  | 0 => sd
  | i + 1 => sc i

theorem slotScore_zero (sd : FVec Ideal S256x256 .f32) (sc : ℕ → FVec Ideal S256x256 .f32) : slotScore sd sc 0 = sd := rfl
theorem slotScore_succ (sd : FVec Ideal S256x256 .f32) (sc : ℕ → FVec Ideal S256x256 .f32) (i : ℕ) :
    slotScore sd sc (i + 1) = sc i := rfl

theorem stores_zero (L : List (View.Piece (Elt Ideal) S1024x256 .f32)) (sd : FVec Ideal S256x256 .f32) (sc : ℕ → FVec Ideal S256x256 .f32) :
    stores L sd sc 0 = ⟨slot 0, shapeCast S256x256 sd shapeCasts_S256x256_S256x256⟩ :: L := rfl

theorem stores_succ (L : List (View.Piece (Elt Ideal) S1024x256 .f32)) (sd : FVec Ideal S256x256 .f32) (sc : ℕ → FVec Ideal S256x256 .f32)
    (n : ℕ) : stores L sd sc (n + 1)
      = ⟨slot (n + 1), shapeCast S256x256 (sc n) shapeCasts_S256x256_S256x256⟩ :: stores L sd sc n := rfl

theorem read_skip (a13 : Memref sig .tc .vmem S1024x256 .f32) {r r' : Rect S1024x256} (w : r.shape.Idx → Elt Ideal .f32)
    (L : List (View.Piece (Elt Ideal) S1024x256 .f32)) (h : Disjoint r.set r'.toLoadRect.set) :
    a13.view.readCov (⟨r, w⟩ :: L) r'.toLoadRect = a13.view.readCov L r'.toLoadRect :=
  View.readCov_cons_of_disjoint a13.view ⟨r, w⟩ L r'.toLoadRect h

theorem read_slot (a13 : Memref sig .tc .vmem S1024x256 .f32) (L : List (View.Piece (Elt Ideal) S1024x256 .f32))
    (sd : FVec Ideal S256x256 .f32) (sc : ℕ → FVec Ideal S256x256 .f32) {n : ℕ} (hn : n ≤ 3) {i : ℕ} (hi : i ≤ n) :
    a13.view.readCov (stores L sd sc n) (slot i).toLoadRect = slotScore sd sc i := by
  induction n with
  | zero =>
    obtain rfl : i = 0 := by omega
    rw [stores_zero]
    exact (View.readCov_cons_toLoadRect _ (slot 0) _ L).trans (shapeCast_self _ _)
  | succ n ih =>
    rw [stores_succ]
    rcases Nat.lt_or_ge i (n + 1) with h | h
    · have hd : Disjoint (slot (n + 1)).set (slot i).toLoadRect.set := slot_disjoint (by omega) (by omega) (by omega)
      exact (read_skip a13 _ _ hd).trans (ih (by omega) (by omega))
    · obtain rfl : i = n + 1 := by omega
      exact (View.readCov_cons_toLoadRect _ (slot (n + 1)) _ _).trans (shapeCast_self _ _)

/-! ## The value of a tile -/

/-- The sum over the keys in reach of query `x` of a tile: on the diagonal the keys up to `x`, in the tile at the window's
    end the keys beyond it, and `n` whole tiles. -/
def reach (far : Bool) (n : ℕ) (x : Fin 256) (φD φF : Fin 256 → ℝ) (φC : ℕ → Fin 256 → ℝ) : ℝ :=
  (∑ y, if y ≤ x then φD y else 0) + (if far then ∑ y, if y ≤ x then 0 else φF y else 0) + ∑ i ∈ Finset.range n, ∑ y, φC i y

/-- The product of a key and a query. -/
def dotKQ (k q : Fin 256 → Fin 128 → ℝ) (y x : Fin 256) : ℝ := ∑ d, k y d * q x d

/-- A tile of extended reals that holds the reals `r`. -/
def Holds {m n : ℕ} {φ : FTy} (v : FVec Ideal ⟨2, ![m, n]⟩ φ) (r : Fin m → Fin n → ℝ) : Prop := ∀ i j, v (ix2 i j) = ((r i j : ℝ) : EReal)

theorem score_holds {k q : FVec Ideal S256x128 .fp8e4m3} {K Q : Fin 256 → Fin 128 → ℝ} (hk : Holds k K) (hq : Holds q Q) (y x : Fin 256) :
    score k q (ix2 y x) = ((dotKQ K Q y x : ℝ) : EReal) := by
  rw [score_apply, dotKQ, coe_sum']
  exact Finset.sum_congr rfl fun d _ => by rw [hk, hq, EReal.coe_mul]

section Attend

variable {far : Bool} {n : ℕ} {q kD kF : FVec Ideal S256x128 .fp8e4m3} {kc : ℕ → FVec Ideal S256x128 .fp8e4m3}
  {vD vF : FVec Ideal S128x256 .fp8e4m3} {vc : ℕ → FVec Ideal S128x256 .fp8e4m3} {c vs : FVec Ideal S1x1 .f32}
  {Q KD KF : Fin 256 → Fin 128 → ℝ} {KC : ℕ → Fin 256 → Fin 128 → ℝ} {VD VF : Fin 128 → Fin 256 → ℝ}
  {VC : ℕ → Fin 128 → Fin 256 → ℝ} {γ ν : ℝ}

/-- The weight of a score. -/
def wt (γ s : ℝ) : ℝ := Real.exp (γ * Real.log 2 * s)

theorem wt_pos (γ s : ℝ) : 0 < wt γ s := Real.exp_pos _

/-- The weights of slot `i`, for query `x`. -/
def slotW (far : Bool) (Q KD KF : Fin 256 → Fin 128 → ℝ) (KC : ℕ → Fin 256 → Fin 128 → ℝ) (γ : ℝ) (x : Fin 256) : ℕ → Fin 256 → ℝ
  | 0, y => if y ≤ x then wt γ (dotKQ KD Q y x) else if far then wt γ (dotKQ KF Q y x) else 0
  | i + 1, y => wt γ (dotKQ (KC i) Q y x)

theorem slotW_zero (far : Bool) (Q KD KF : Fin 256 → Fin 128 → ℝ) (KC : ℕ → Fin 256 → Fin 128 → ℝ) (γ : ℝ) (x y : Fin 256) :
    slotW far Q KD KF KC γ x 0 y = if y ≤ x then wt γ (dotKQ KD Q y x) else if far then wt γ (dotKQ KF Q y x) else 0 := rfl

theorem slotW_succ (far : Bool) (Q KD KF : Fin 256 → Fin 128 → ℝ) (KC : ℕ → Fin 256 → Fin 128 → ℝ) (γ : ℝ) (x y : Fin 256) (i : ℕ) :
    slotW far Q KD KF KC γ x (i + 1) y = wt γ (dotKQ (KC i) Q y x) := rfl

theorem diag_holds (hq : Holds q Q) (hD : Holds kD KD) (hF : Holds kF KF) (y x : Fin 256) :
    diag far kD kF q (ix2 y x) = if y ≤ x then ((dotKQ KD Q y x : ℝ) : EReal) else if far then ((dotKQ KF Q y x : ℝ) : EReal) else ⊥ := by
  cases far
  · show select lower (score kD q) (broadcast S256x256 (Scalar.ofBits .f32 0xFF800000#32)) (ix2 y x) = _
    rw [select_lower, score_holds hD hq]
    simp only [Bool.false_eq_true, if_false]
    exact if_congr Iff.rfl rfl ofBits_neg_inf
  · show select lower (score kD q) (score kF q) (ix2 y x) = _
    rw [select_lower, score_holds hD hq, score_holds hF hq, if_pos rfl]

theorem runMax_real (hq : Holds q Q) (hD : Holds kD KD) (hF : Holds kF KF) (hC : ∀ i, Holds (kc i) (KC i)) (x : Fin 256) (n : ℕ) :
    ∃ M : ℝ, runMax (diag far kD kF q) (fun i => score (kc i) q) n (ix2 0 x) = (M : EReal) := by
  induction n with
  | zero =>
    unfold runMax
    rw [colMax_apply]
    refine fold_max_real _ (fun y => ?_) ⟨x, ?_⟩
    · rw [diag_holds hq hD hF]
      split_ifs <;> simp
    · rw [diag_holds hq hD hF, if_pos le_rfl]; simp
  | succ n ih =>
    obtain ⟨M, hM⟩ := ih
    obtain ⟨M', hM'⟩ : ∃ M' : ℝ, colMax (score (kc n) q) (ix2 0 x) = (M' : EReal) := by
      rw [colMax_apply]
      exact fold_max_real _ (fun y => by rw [score_holds (hC n) hq]; simp) ⟨x, by rw [score_holds (hC n) hq]; simp⟩
    refine ⟨max M M', ?_⟩
    unfold runMax
    pointwise
    rw [hM, hM', coe_max']

/-- A power of two of a shifted score. -/
theorem exp2_shift (s M γ : ℝ) : Ideal.exp2 (((s : EReal) - (M : EReal)) * (γ : EReal)) = ((wt γ (-M) * wt γ s : ℝ) : EReal) := by
  rw [← EReal.coe_sub, ← EReal.coe_mul, Ideal.exp2_coe]
  unfold wt
  rw [← Real.exp_add]
  show ((Real.rpow 2 _ : ℝ) : EReal) = _
  rw [Real.rpow_eq_pow, Real.rpow_def_of_pos (by norm_num)]
  congr 2; ring

theorem prob_slot (hq : Holds q Q) (hD : Holds kD KD) (hF : Holds kF KF) (hC : ∀ i, Holds (kc i) (KC i))
    (hc : c (ix2 0 0) = (γ : EReal)) (hγ : 0 < γ) {m : FVec Ideal S1x256 .f32} {M : ℝ} {x : Fin 256} (hM : m (ix2 0 x) = (M : EReal))
    (i : ℕ) (y : Fin 256) :
    prob (slotScore (diag far kD kF q) (fun i => score (kc i) q) i) m c (ix2 y x)
      = ((wt γ (-M) * slotW far Q KD KF KC γ x i y : ℝ) : EReal) := by
  rw [prob_apply, hc, hM]
  cases i with
  | zero =>
    rw [slotScore_zero, slotW_zero, diag_holds hq hD hF]
    split_ifs
    · exact exp2_shift _ _ _
    · exact exp2_shift _ _ _
    · rw [EReal.bot_sub, EReal.bot_mul_coe_of_pos hγ, Ideal.exp2_bot]; simp
  | succ i =>
    rw [slotScore_succ, slotW_succ, score_holds (hC i) hq]
    exact exp2_shift _ _ _

theorem runSum_holds {p : ℕ → FVec Ideal S256x256 .f32} {w : ℝ} {W : ℕ → Fin 256 → ℝ} {x : Fin 256} (n : ℕ)
    (hp : ∀ i ≤ n, ∀ y, p i (ix2 y x) = ((w * W i y : ℝ) : EReal)) :
    runSum p n (ix2 0 x) = ((w * (∑ y, W 0 y + ∑ i ∈ Finset.range n, ∑ y, W (i + 1) y) : ℝ) : EReal) := by
  have hs : ∀ i ≤ n, colSum (p i) (ix2 0 x) = ((w * ∑ y, W i y : ℝ) : EReal) := fun i hi => by
    rw [colSum_apply, Finset.mul_sum, coe_sum']
    exact Finset.sum_congr rfl fun y _ => hp i hi y
  induction n with
  | zero =>
    unfold runSum zeroL
    pointwise
    rw [hs 0 le_rfl]; simp
  | succ n ih =>
    unfold runSum
    pointwise
    rw [ih (fun i hi => hp i (by omega)) (fun i hi => hs i (by omega)), hs (n + 1) le_rfl, ← EReal.coe_add, Finset.sum_range_succ]
    congr 1; ring

theorem addO_holds {o : FVec Ideal S128x256 .f32} {vt : FVec Ideal S128x256 .fp8e4m3} {p : FVec Ideal S256x256 .f32}
    {w O : ℝ} {V : Fin 128 → Fin 256 → ℝ} {P : Fin 256 → ℝ} {d : Fin 128} {x : Fin 256} (ho : o (ix2 d x) = ((w * O : ℝ) : EReal))
    (hv : Holds vt V) (hp : ∀ y, p (ix2 y x) = ((w * P y : ℝ) : EReal)) :
    addO o vt p (ix2 d x) = ((w * (O + ∑ y, P y * V d y) : ℝ) : EReal) := by
  rw [addO_apply, ho, mul_add, EReal.coe_add, Finset.mul_sum, coe_sum']
  refine congrArg _ (Finset.sum_congr rfl fun y _ => ?_)
  rw [hv, hp, ← EReal.coe_mul]
  congr 1; ring

theorem runOut_holds {p : ℕ → FVec Ideal S256x256 .f32} {w : ℝ} {W : ℕ → Fin 256 → ℝ} {x : Fin 256} {d : Fin 128} (n : ℕ)
    (hvD : Holds vD VD) (hvF : Holds vF VF) (hvC : ∀ i, Holds (vc i) (VC i))
    (hp : ∀ i ≤ n, ∀ y, p i (ix2 y x) = ((w * W i y : ℝ) : EReal)) :
    runOut far p vD vF vc n (ix2 d x) = ((w * (reach far n x (fun y => W 0 y * VD d y) (fun y => W 0 y * VF d y)
      (fun i y => W (i + 1) y * VC i d y)) : ℝ) : EReal) := by
  have hz : (zeroO : FVec Ideal S128x256 .f32) (ix2 d x) = ((w * 0 : ℝ) : EReal) := by unfold zeroO; pointwise; simp
  have hzP : ∀ y, (zeroP : FVec Ideal S256x256 .f32) (ix2 y x) = 0 := fun y => by unfold zeroP; pointwise
  induction n with
  | zero =>
    have h1 : ∀ y, select lower (p 0) zeroP (ix2 y x) = ((w * (if y ≤ x then W 0 y else 0) : ℝ) : EReal) := fun y => by
      rw [select_lower, hp 0 le_rfl, hzP]; split_ifs <;> simp
    have h2 : ∀ y, select lower zeroP (p 0) (ix2 y x) = ((w * (if y ≤ x then 0 else W 0 y) : ℝ) : EReal) := fun y => by
      rw [select_lower, hp 0 le_rfl, hzP]; split_ifs <;> simp
    cases far
    · unfold runOut
      refine (addO_holds hz hvD h1).trans ?_
      unfold reach; simp [ite_mul]
    · unfold runOut
      refine (addO_holds (addO_holds hz hvD h1) hvF h2).trans ?_
      unfold reach; simp [ite_mul]
  | succ n ih =>
    unfold runOut
    refine (addO_holds (ih fun i hi => hp i (by omega)) (hvC n) (hp (n + 1) le_rfl)).trans ?_
    unfold reach
    rw [Finset.sum_range_succ, add_assoc]

theorem reach_pos {φD φF : Fin 256 → ℝ} {φC : ℕ → Fin 256 → ℝ} (x : Fin 256) (hD : ∀ y, 0 < φD y) (hF : ∀ y, 0 ≤ φF y)
    (hC : ∀ i y, 0 ≤ φC i y) : 0 < reach far n x φD φF φC := by
  unfold reach
  have h1 : 0 < ∑ y, if y ≤ x then φD y else 0 :=
    Finset.sum_pos' (fun y _ => by split_ifs; exacts [(hD y).le, le_rfl]) ⟨x, Finset.mem_univ _, by rw [if_pos le_rfl]; exact hD x⟩
  have h2 : 0 ≤ if far then ∑ y, if y ≤ x then 0 else φF y else 0 := by
    split_ifs
    · exact Finset.sum_nonneg fun y _ => by split_ifs; exacts [le_rfl, hF y]
    · exact le_rfl
  have h3 : 0 ≤ ∑ i ∈ Finset.range n, ∑ y, φC i y := Finset.sum_nonneg fun i _ => Finset.sum_nonneg fun y _ => hC i y
  linarith

theorem sum_slotW (x : Fin 256) :
    ∑ y, slotW far Q KD KF KC γ x 0 y + ∑ i ∈ Finset.range n, ∑ y, slotW far Q KD KF KC γ x (i + 1) y
      = reach far n x (fun y => wt γ (dotKQ KD Q y x)) (fun y => wt γ (dotKQ KF Q y x)) (fun i y => wt γ (dotKQ (KC i) Q y x)) := by
  unfold reach
  simp only [slotW_zero, slotW_succ]
  refine congrArg (· + _) ?_
  cases far
  · simp
  · simp only [if_true, ← Finset.sum_add_distrib]
    exact Finset.sum_congr rfl fun y _ => by split_ifs <;> simp

theorem reach_slotW (x : Fin 256) (d : Fin 128) :
    reach far n x (fun y => slotW far Q KD KF KC γ x 0 y * VD d y) (fun y => slotW far Q KD KF KC γ x 0 y * VF d y)
        (fun i y => slotW far Q KD KF KC γ x (i + 1) y * VC i d y)
      = reach far n x (fun y => wt γ (dotKQ KD Q y x) * VD d y) (fun y => wt γ (dotKQ KF Q y x) * VF d y)
        (fun i y => wt γ (dotKQ (KC i) Q y x) * VC i d y) := by
  unfold reach
  simp only [slotW_zero, slotW_succ]
  refine congrArg (· + _) (congrArg₂ (· + ·) (Finset.sum_congr rfl fun y _ => ?_) ?_)
  · by_cases h : y ≤ x
    · simp only [if_pos h]
    · simp only [if_neg h]
  · cases far
    · rfl
    · simp only [if_true]
      refine Finset.sum_congr rfl fun y _ => ?_
      by_cases h : y ≤ x
      · simp only [if_pos h]
      · simp only [if_neg h]

/-- **One tile of queries.** -/
theorem attend_apply (a13 : Memref sig .tc .vmem S1024x256 .f32) (L : List (View.Piece (Elt Ideal) S1024x256 .f32)) (hn : n ≤ 3)
    (hq : Holds q Q) (hD : Holds kD KD) (hF : Holds kF KF) (hC : ∀ i, Holds (kc i) (KC i)) (hvD : Holds vD VD) (hvF : Holds vF VF)
    (hvC : ∀ i, Holds (vc i) (VC i)) (hc : c (ix2 0 0) = (γ : EReal)) (hγ : 0 < γ) (hν : vs (ix2 0 0) = (ν : EReal))
    (z : Fin 1) (x : Fin 256) (d : Fin 128) :
    attend a13 far n q kD kF kc vD vF vc c vs L (ix3 z x d)
      = ((reach far n x (fun y => wt γ (dotKQ KD Q y x) * VD d y) (fun y => wt γ (dotKQ KF Q y x) * VF d y)
            (fun i y => wt γ (dotKQ (KC i) Q y x) * VC i d y)
          * (ν / reach far n x (fun y => wt γ (dotKQ KD Q y x)) (fun y => wt γ (dotKQ KF Q y x))
            (fun i y => wt γ (dotKQ (KC i) Q y x))) : ℝ) : EReal) := by
  obtain ⟨M, hM⟩ := runMax_real (far := far) hq hD hF hC x n
  have hp : ∀ i ≤ n, ∀ y, prob (a13.view.readCov (stores L (diag far kD kF q) (fun i => score (kc i) q) n) (slot i).toLoadRect)
      (runMax (diag far kD kF q) (fun i => score (kc i) q) n) c (ix2 y x)
      = ((wt γ (-M) * slotW far Q KD KF KC γ x i y : ℝ) : EReal) := fun i hi y => by
    rw [read_slot a13 L _ _ hn hi]
    exact prob_slot hq hD hF hC hc hγ hM i y
  unfold attend
  rw [finish_apply, hν, runSum_holds n hp, runOut_holds n hvD hvF hvC hp, sum_slotW, reach_slotW]
  have hr := reach_pos (far := far) (n := n) x (fun y => wt_pos γ (dotKQ KD Q y x)) (fun y => (wt_pos γ (dotKQ KF Q y x)).le)
    (fun i y => (wt_pos γ (dotKQ (KC i) Q y x)).le)
  have hw := wt_pos γ (-M)
  rw [Ideal.div_coe (mul_pos hw hr).ne', ← EReal.coe_mul, ← EReal.coe_mul]
  congr 1
  field_simp

end Attend

end Cert.KernelIdeal.Tile

end
-- ==== Proof.Window.lean ====
/-
  The window over tiles.  A query sees the 1024 keys that end with its own.  Taken 256 at a time, query `x` of tile `t` sees
  the keys up to `x` of tile `t`, the keys beyond `x` of tile `t - 4` and the whole tiles in between: `reach` is the masked sum
  over all 2048 keys.
-/
module

public import proofs.«01_k».proof.Proof.TileValue
public import Mathlib.Logic.Equiv.Fin.Basic

@[expose] public section

noncomputable section

namespace Cert.Quant

open Cert.KernelIdeal.Tile

/-- Position `y` of tile `t`. -/
def pos (t : ℕ) (y : Fin 256) : Fin 2048 := ⟨256 * (t % 8) + y.val, by have := y.isLt; omega⟩

/-- Key `j` is in the window of query `i`. -/
def Vis (i j : Fin 2048) : Prop := j.val ≤ i.val ∧ i.val < j.val + 1024

instance (i j : Fin 2048) : Decidable (Vis i j) := inferInstanceAs (Decidable (_ ∧ _))

theorem sum_tiles (φ : Fin 2048 → ℝ) : ∑ j, φ j = ∑ t : Fin 8, ∑ y, φ (pos t y) := by
  rw [← Fintype.sum_prod_type', ← Equiv.sum_comp (finProdFinEquiv (m := 8) (n := 256))]
  refine Finset.sum_congr rfl fun p _ => congrArg φ (Fin.ext ?_)
  have h := p.1.isLt
  show p.2.val + 256 * p.1.val = 256 * (p.1.val % 8) + p.2.val
  omega

/-- The part of the window in tile `u`, for query `x` of tile `t`. -/
theorem sum_tile {t u : ℕ} (ht : t < 8) (hu : u < 8) (x : Fin 256) (φ : Fin 2048 → ℝ) :
    (∑ y, if Vis (pos t x) (pos u y) then φ (pos u y) else 0)
      = if u = t then ∑ y, if y ≤ x then φ (pos u y) else 0
        else if u + 4 = t then ∑ y, if y ≤ x then 0 else φ (pos u y)
        else if u < t ∧ t < u + 4 then ∑ y, φ (pos u y) else 0 := by
  have hx := x.isLt
  have key : ∀ y : Fin 256, Vis (pos t x) (pos u y) ↔ 256 * u + y.val ≤ 256 * t + x.val ∧ 256 * t + x.val < 256 * u + y.val + 1024 := fun y => by
    show 256 * (u % 8) + y.val ≤ 256 * (t % 8) + x.val ∧ 256 * (t % 8) + x.val < 256 * (u % 8) + y.val + 1024 ↔ _
    rw [Nat.mod_eq_of_lt ht, Nat.mod_eq_of_lt hu]
  have hle : ∀ y : Fin 256, y ≤ x ↔ y.val ≤ x.val := fun y => Iff.rfl
  split_ifs with h1 h2 h3
  · exact Finset.sum_congr rfl fun y _ => if_congr ((key y).trans (by have := y.isLt; rw [hle]; omega)) rfl rfl
  · refine Finset.sum_congr rfl fun y _ => ?_
    have := y.isLt
    by_cases h : y ≤ x
    · rw [if_pos h, if_neg]; rw [key]; rw [hle] at h; omega
    · rw [if_neg h, if_pos]; rw [key]; rw [hle] at h; omega
  · exact Finset.sum_congr rfl fun y _ => if_pos ((key y).2 (by have := y.isLt; omega))
  · refine Finset.sum_eq_zero fun y _ => if_neg ?_
    rw [key]; have := y.isLt; omega

theorem reach_eq {t : ℕ} (ht : t < 8) (x : Fin 256) (φ : Fin 2048 → ℝ) :
    reach (Nat.ble 4 t) (min t 3) x (fun y => φ (pos t y)) (fun y => φ (pos (t - 4) y)) (fun i y => φ (pos (t - min t 3 + i) y))
      = ∑ j, if Vis (pos t x) j then φ j else 0 := by
  rw [sum_tiles fun j => if Vis (pos t x) j then φ j else 0, Finset.sum_congr rfl fun (u : Fin 8) _ => sum_tile ht u.isLt x φ]
  unfold reach
  rw [Fin.sum_univ_eight]
  interval_cases t <;> simp [Finset.sum_range_succ] <;> ring

/-- The attention output of one head at query `i`, feature `d`: the visible values weighted by the exponentials of the scaled
    scores, over the sum of the weights, times the scale of the values; queries, keys and values enter as codes. -/
def attn (q k v : Fin 2048 → Fin 128 → ℝ) (i : Fin 2048) (d : Fin 128) : ℝ :=
  (∑ j, if Vis i j then Real.exp (scl q * scl k / Real.sqrt 128 * ∑ e, cod q i e * cod k j e) * cod v j d else 0)
    * (scl v / ∑ j, if Vis i j then Real.exp (scl q * scl k / Real.sqrt 128 * ∑ e, cod q i e * cod k j e) else 0)

end Cert.Quant

end
-- ==== Proof.RefQuant.lean ====
/-
  The reference's quantiser over the reals: its scales are `scl` and its codes `cod` of each head's block of the argument.
-/
module

public import proofs.«01_k».proof.Proof.Window
public import proofs.«01_k».proof.Proof.Gen.ReferenceIdeal.Read

@[expose] public section

noncomputable section

namespace Cert.Quant

open Idealize.ShloMosaic

/-- Column `d` of query head `h` and of key or value head `g`. -/
def colQ (h : Fin 8) (d : Fin 128) : Fin 1024 := ⟨128 * h.val + d.val, by omega⟩
def colK (g : Fin 2) (d : Fin 128) : Fin 256 := ⟨128 * g.val + d.val, by omega⟩

/-- The block of one batch and one head of an array of reals. -/
def blkQ (f : Fin 9 → Fin 2048 → Fin 1024 → ℝ) (b : Fin 9) (h : Fin 8) : Fin 2048 → Fin 128 → ℝ := fun i d => f b i (colQ h d)
def blkK (f : Fin 9 → Fin 2048 → Fin 256 → ℝ) (b : Fin 9) (g : Fin 2) : Fin 2048 → Fin 128 → ℝ := fun i d => f b i (colK g d)

/-- The reference's exponent as a function of the largest magnitude. -/
def refExp {F : FTy → Type} [FloatOps F] (m : F .f32) : F .f32 :=
  Scalar.select (FloatOps.cmpf .oeq m (FloatOps.ofBits .f32 0x00000000#32)) (FloatOps.ofBits .f32 0x00000000#32)
    (FloatOps.addf (FloatOps.hostUnary .floor (FloatOps.hostDivf (FloatOps.hostUnary .log
      (FloatOps.mulf m (FloatOps.ofBits .f32 0x3B124925#32))) (FloatOps.hostUnary .log (FloatOps.ofBits .f32 0x40000000#32))))
      (FloatOps.ofBits .f32 0x3F800000#32))

/-- Its power of two. -/
def refPow {F : FTy → Type} [FloatOps F] (e : F .f32) : F .f32 :=
  FloatOps.hostUnary .exp (FloatOps.mulf e (FloatOps.hostUnary .log (FloatOps.ofBits .f32 0x40000000#32)))

/-- Its codes, given an element and the inverse scale. -/
def refCode {F : FTy → Type} [FloatOps F] (x w : F .f32) : F .f32 :=
  FloatOps.minimumf (FloatOps.ofBits .f32 0x43E00000#32) (FloatOps.maximumf (FloatOps.ofBits .f32 0xC3E00000#32) (FloatOps.mulf x w))

theorem ofBits_two : Ideal.ofBits .f32 0x40000000#32 = ((2 : ℝ) : EReal) := by
  simp [Ideal.ofBits, Ideal.ieee, -EReal.coe_mul]; norm_num

theorem log_coe {r : ℝ} (h : 0 < r) : Ideal.log (r : EReal) = ((Real.log r : ℝ) : EReal) := by
  show (if r ≤ 0 then ⊥ else (Real.log r : EReal)) = _
  rw [if_neg (not_le.2 h)]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- It is `qexp`. -/
theorem refExp_coe {a : ℝ} (h : Ok a) : refExp (F := Ideal) ((a : ℝ) : EReal) = ((qexp a : ℝ) : EReal) := by
  have e0 : FloatOps.ofBits (F := Ideal) .f32 0x00000000#32 = (0 : EReal) := Ideal.ofBits_zero_f32
  have ek : FloatOps.ofBits (F := Ideal) .f32 0x3B124925#32 = ((kap : ℝ) : EReal) := ofBits_kap
  have e2 : FloatOps.ofBits (F := Ideal) .f32 0x40000000#32 = ((2 : ℝ) : EReal) := ofBits_two
  have e1 : FloatOps.ofBits (F := Ideal) .f32 0x3F800000#32 = ((1 : ℝ) : EReal) := Ideal.ofBits_one_f32
  unfold refExp
  rw [e0, ek, e2, e1]
  by_cases h0 : a = 0
  · subst h0
    simp [Scalar.select, qexp, FloatOps.cmpf, Ideal.cmp]
  · have hp := mul_pos (h.pos h0) kap_pos
    have hl : (0 : ℝ) < Real.log 2 := Real.log_pos (by norm_num)
    have hc : FloatOps.cmpf (F := Ideal) (φ := .f32) .oeq ((a : ℝ) : EReal) (0 : EReal) = 0#1 := by
      simp [FloatOps.cmpf, Ideal.cmp, h0]
    rw [hc]
    show FloatOps.addf (F := Ideal) (φ := .f32) (Ideal.liftRound Int.floor (Ideal.div (Ideal.log (((a : ℝ) : EReal) * ((kap : ℝ) : EReal)))
      (Ideal.log ((2 : ℝ) : EReal)))) ((1 : ℝ) : EReal) = _
    rw [← EReal.coe_mul, log_coe hp, log_coe (by norm_num), div_coe _ _ hl.ne']
    show (((⌊Real.log (a * kap) / Real.log 2⌋ : ℤ) : ℝ) : EReal) + ((1 : ℝ) : EReal) = _
    rw [← EReal.coe_add]
    simp only [qexp, if_neg h0, lg]
    push_cast
    rfl

theorem refPow_coe (n : ℤ) : refPow (F := Ideal) ((n : ℝ) : EReal) = (((2 : ℝ) ^ n : ℝ) : EReal) := by
  have e2 : FloatOps.ofBits (F := Ideal) .f32 0x40000000#32 = ((2 : ℝ) : EReal) := ofBits_two
  unfold refPow
  rw [e2]
  show Ideal.exp (((n : ℝ) : EReal) * Ideal.log ((2 : ℝ) : EReal)) = _
  rw [log_coe (by norm_num), ← EReal.coe_mul]
  show ((Real.exp (n * Real.log 2) : ℝ) : EReal) = _
  rw [← Real.log_zpow, Real.exp_log (by positivity)]

theorem refCode_coe (x w : ℝ) : refCode (F := Ideal) (x : EReal) (w : EReal) = ((min 448 (max (-448) (x * w)) : ℝ) : EReal) := by
  have e1 : FloatOps.ofBits (F := Ideal) .f32 0x43E00000#32 = ((448 : ℝ) : EReal) := ofBits_448
  have e2 : FloatOps.ofBits (F := Ideal) .f32 0xC3E00000#32 = ((-448 : ℝ) : EReal) := ofBits_neg_448
  unfold refCode
  rw [e1, e2, coe_min', coe_max', EReal.coe_mul]
  exact rfl

end Cert.Quant

namespace Cert.ReferenceIdeal.Read

open Cert.Quant Idealize.ShloMosaic Cert.ReferenceIdeal Cert.ReferenceIdeal.Gen

/-- The largest element along axes 1 and 3 of a four-axis array. -/
theorem reduce_max13 {n0 n1 n2 n3 : ℕ} (v : (⟨4, ![n0, n1, n2, n3]⟩ : Shape).Idx → EReal)
    (h : (⟨4, ![n0, n1, n2, n3]⟩ : Shape).ReducesTo [1, 3] ⟨2, ![n0, n2]⟩) (init : S_.Idx → EReal) (hu : 0 < S_.numel)
    (hi : ∀ i, init i = ⊥) (b : Fin n0) (g : Fin n2) (a : EReal) (hle : ∀ i d, v (ix4 b i g d) ≤ a)
    (hex : ∃ i d, v (ix4 b i g d) = a) :
    Host.reduce (FloatOps.maximumf (F := Ideal) (φ := .f32)) v init h hu (ix2 b g) = a := by
  rw [Host.reduce_eq_fold, hi]
  have hd0 : ∀ i, (h.drop i 0).val = (i 0).val := fun i => h.drop_apply_val_of_eq i 0 0 (show 0 < 2 by decide) rfl
  have hd1 : ∀ i, (h.drop i 1).val = (i 2).val := fun i => h.drop_apply_val_of_eq i 1 2 (show 1 < 2 by decide) rfl
  rw [Finset.fold_filter_eq_fold_of_fiber _ _ (fun p : Fin n1 × Fin n3 => ix4 b p.1 g p.2)
    (fun p q e => Prod.ext (congrFun e 1) (congrFun e 3))]
  · obtain ⟨i, d, e⟩ := hex
    exact fold_max_eq _ _ (fun p => hle p.1 p.2) ⟨(i, d), e⟩
  · intro i
    constructor
    · intro e
      refine ⟨(i 1, i 3), ?_⟩
      have a0 : (i 0).val = b.val := (hd0 i).symm.trans (congrArg (fun z => (z 0).val) e)
      have a1 : (i 2).val = g.val := (hd1 i).symm.trans (congrArg (fun z => (z 1).val) e)
      funext a; fin_cases a
      · exact Fin.ext a0.symm
      · rfl
      · exact Fin.ext a1.symm
      · rfl
    · rintro ⟨p, rfl⟩
      funext a; fin_cases a
      · exact Fin.ext (hd0 _)
      · exact Fin.ext (hd1 _)

/-- No element along the two axes exceeds it. -/
theorem le_reduce_max13 {n0 n1 n2 n3 : ℕ} (v : (⟨4, ![n0, n1, n2, n3]⟩ : Shape).Idx → EReal)
    (h : (⟨4, ![n0, n1, n2, n3]⟩ : Shape).ReducesTo [1, 3] ⟨2, ![n0, n2]⟩) (init : S_.Idx → EReal) (hu : 0 < S_.numel)
    (hi : ∀ i, init i = ⊥) (b : Fin n0) (g : Fin n2) (i : Fin n1) (d : Fin n3) :
    v (ix4 b i g d) ≤ Host.reduce (FloatOps.maximumf (F := Ideal) (φ := .f32)) v init h hu (ix2 b g) := by
  haveI : Nonempty (Fin n1 × Fin n3) := ⟨(i, d)⟩
  obtain ⟨p, hp⟩ := Finite.exists_max fun p : Fin n1 × Fin n3 => v (ix4 b p.1 g p.2)
  rw [reduce_max13 v h init hu hi b g _ (fun i d => hp (i, d)) ⟨p.1, p.2, rfl⟩]
  exact hp (i, d)

section Steps

variable {F : FTy → Type} [FloatOps F]

theorem v16_eq (x : (⟨S9x2048x1024, .bf16⟩ : BufTy).Contents (Elt F)) (i : S9x8.Idx) :
    val_main_v16 (F := F) x i = refExp (val_main_v3 (F := F) x i) := rfl
theorem v20_eq (x : (⟨S9x2048x1024, .bf16⟩ : BufTy).Contents (Elt F)) (i : S9x8.Idx) :
    val_main_v20 (F := F) x i = refPow (val_main_v16 (F := F) x i) := rfl
theorem v25_eq (x : (⟨S9x2048x1024, .bf16⟩ : BufTy).Contents (Elt F)) (i : S9x8.Idx) :
    val_main_v25 (F := F) x i = refPow (FloatOps.hostNegf (val_main_v16 (F := F) x i)) := rfl
theorem v29_eq (x : (⟨S9x2048x1024, .bf16⟩ : BufTy).Contents (Elt F)) (b : Fin 9) (i : Fin 2048) (h : Fin 8) (d : Fin 128) :
    val_main_v29 (F := F) x (ix4 b i h d) = refCode (val_main_v1 (F := F) x (ix4 b i h d)) (val_main_v25 (F := F) x (ix2 b h)) := by
  have e : val_main_v27 (F := F) x (ix4 b i h d) = val_main_v25 (F := F) x (ix2 b h) := by
    rw [val_main_v27_apply, val_main_v26_apply]; exact congrArg _ (by funext a; fin_cases a <;> rfl)
  rw [← e]; rfl

theorem v46_eq (x : (⟨S9x2048x256, .bf16⟩ : BufTy).Contents (Elt F)) (i : S9x2.Idx) :
    val_main_v46 (F := F) x i = refExp (val_main_v33 (F := F) x i) := rfl
theorem v50_eq (x : (⟨S9x2048x256, .bf16⟩ : BufTy).Contents (Elt F)) (i : S9x2.Idx) :
    val_main_v50 (F := F) x i = refPow (val_main_v46 (F := F) x i) := rfl
theorem v55_eq (x : (⟨S9x2048x256, .bf16⟩ : BufTy).Contents (Elt F)) (i : S9x2.Idx) :
    val_main_v55 (F := F) x i = refPow (FloatOps.hostNegf (val_main_v46 (F := F) x i)) := rfl
theorem v59_eq (x : (⟨S9x2048x256, .bf16⟩ : BufTy).Contents (Elt F)) (b : Fin 9) (i : Fin 2048) (h : Fin 2) (d : Fin 128) :
    val_main_v59 (F := F) x (ix4 b i h d) = refCode (val_main_v31 (F := F) x (ix4 b i h d)) (val_main_v55 (F := F) x (ix2 b h)) := by
  have e : val_main_v57 (F := F) x (ix4 b i h d) = val_main_v55 (F := F) x (ix2 b h) := by
    rw [val_main_v57_apply, val_main_v56_apply]; exact congrArg _ (by funext a; fin_cases a <;> rfl)
  rw [← e]; rfl

/-- The values go through the same steps as the keys. -/
theorem v80_eq (x : (⟨S9x2048x256, .bf16⟩ : BufTy).Contents (Elt F)) : val_main_v80 (F := F) x = val_main_v50 (F := F) x := rfl
theorem v89_eq (x : (⟨S9x2048x256, .bf16⟩ : BufTy).Contents (Elt F)) : val_main_v89 (F := F) x = val_main_v59 (F := F) x := rfl

end Steps

section Q

variable {x : (⟨S9x2048x1024, .bf16⟩ : BufTy).Contents (Elt Ideal)} {f : Fin 9 → Fin 2048 → Fin 1024 → ℝ}
  (hx : ∀ b i n, x (ix3 b i n) = ((f b i n : ℝ) : EReal))

include hx

omit hx in
theorem q_entry (b : Fin 9) (i : Fin 2048) (h : Fin 8) (d : Fin 128) : val_main_v1 (F := Ideal) x (ix4 b i h d) = x (ix3 b i (colQ h d)) := by
  rw [val_main_v1_apply, val_main_v0_apply]
  refine congrArg x ?_
  have := h.isLt; have := d.isLt; have := i.isLt; have := b.isLt
  funext a; apply Fin.ext; fin_cases a
  · show (((b.val * 2048 + i.val) * 8 + h.val) * 128 + d.val) / 2097152 = b.val; omega
  · show (((b.val * 2048 + i.val) * 8 + h.val) * 128 + d.val) / 1024 % 2048 = i.val; omega
  · show (((b.val * 2048 + i.val) * 8 + h.val) * 128 + d.val) % 1024 = 128 * h.val + d.val; omega

theorem q_arg (b : Fin 9) (i : Fin 2048) (h : Fin 8) (d : Fin 128) : val_main_v1 (F := Ideal) x (ix4 b i h d) = ((blkQ f b h i d : ℝ) : EReal) :=
  (q_entry b i h d).trans (hx b i (colQ h d))

theorem q_mag (b : Fin 9) (h : Fin 8) : val_main_v3 (F := Ideal) x (ix2 b h) = ((mag (blkQ f b h) : ℝ) : EReal) := by
  have habs : ∀ i d, val_main_v2 (F := Ideal) x (ix4 b i h d) = ((|blkQ f b h i d| : ℝ) : EReal) := fun i d => by
    rw [val_main_v2_apply, q_arg hx]; exact abs_coe' _
  obtain ⟨i0, d0, e0⟩ := mag_mem (blkQ f b h)
  refine reduce_max13 _ _ _ _ (fun i => ofBits_neg_inf) b h _ (fun i d => ?_) ⟨i0, d0, ?_⟩
  · rw [habs]; exact EReal.coe_le_coe (le_mag _ i d)
  · rw [habs, e0]

omit hx in
theorem q_le_mag (b : Fin 9) (i : Fin 2048) (h : Fin 8) (d : Fin 128) :
    max (x (ix3 b i (colQ h d))) (-(x (ix3 b i (colQ h d)))) ≤ val_main_v3 (F := Ideal) x (ix2 b h) := by
  rw [← q_entry (x := x) b i h d]
  exact le_reduce_max13 (val_main_v2 (F := Ideal) x) _ _ _ (fun i => ofBits_neg_inf) b h i d

variable {b : Fin 9} {h : Fin 8} (hok : OkBlock (blkQ f b h))

include hok

theorem q_exp : val_main_v16 (F := Ideal) x (ix2 b h) = ((qexp (mag (blkQ f b h)) : ℝ) : EReal) := by
  rw [v16_eq, q_mag hx, refExp_coe hok.mag]

theorem q_scale : val_main_v20 (F := Ideal) x (ix2 b h) = ((scl (blkQ f b h) : ℝ) : EReal) := by
  rw [v20_eq, q_exp hx hok, refPow_coe]; rfl

theorem q_inv : val_main_v25 (F := Ideal) x (ix2 b h) = (((2 : ℝ) ^ (-qexp (mag (blkQ f b h))) : ℝ) : EReal) := by
  rw [v25_eq, q_exp hx hok, ← refPow_coe, Int.cast_neg, EReal.coe_neg]; rfl

theorem q_codes (i : Fin 2048) (d : Fin 128) :
    val_main_v29 (F := Ideal) x (ix4 b i h d) = ((cod (blkQ f b h) i d : ℝ) : EReal) := by
  rw [v29_eq, q_arg hx, q_inv hx hok, refCode_coe]; rfl

end Q

section K

variable {x : (⟨S9x2048x256, .bf16⟩ : BufTy).Contents (Elt Ideal)} {f : Fin 9 → Fin 2048 → Fin 256 → ℝ}
  (hx : ∀ b i n, x (ix3 b i n) = ((f b i n : ℝ) : EReal))

include hx

omit hx in
theorem k_entry (b : Fin 9) (i : Fin 2048) (h : Fin 2) (d : Fin 128) : val_main_v31 (F := Ideal) x (ix4 b i h d) = x (ix3 b i (colK h d)) := by
  rw [val_main_v31_apply, val_main_v30_apply]
  refine congrArg x ?_
  have := h.isLt; have := d.isLt; have := i.isLt; have := b.isLt
  funext a; apply Fin.ext; fin_cases a
  · show (((b.val * 2048 + i.val) * 2 + h.val) * 128 + d.val) / 524288 = b.val; omega
  · show (((b.val * 2048 + i.val) * 2 + h.val) * 128 + d.val) / 256 % 2048 = i.val; omega
  · show (((b.val * 2048 + i.val) * 2 + h.val) * 128 + d.val) % 256 = 128 * h.val + d.val; omega

theorem k_arg (b : Fin 9) (i : Fin 2048) (h : Fin 2) (d : Fin 128) : val_main_v31 (F := Ideal) x (ix4 b i h d) = ((blkK f b h i d : ℝ) : EReal) :=
  (k_entry b i h d).trans (hx b i (colK h d))

theorem k_mag (b : Fin 9) (h : Fin 2) : val_main_v33 (F := Ideal) x (ix2 b h) = ((mag (blkK f b h) : ℝ) : EReal) := by
  have habs : ∀ i d, val_main_v32 (F := Ideal) x (ix4 b i h d) = ((|blkK f b h i d| : ℝ) : EReal) := fun i d => by
    rw [val_main_v32_apply, k_arg hx]; exact abs_coe' _
  obtain ⟨i0, d0, e0⟩ := mag_mem (blkK f b h)
  refine reduce_max13 _ _ _ _ (fun i => ofBits_neg_inf) b h _ (fun i d => ?_) ⟨i0, d0, ?_⟩
  · rw [habs]; exact EReal.coe_le_coe (le_mag _ i d)
  · rw [habs, e0]

omit hx in
theorem k_le_mag (b : Fin 9) (i : Fin 2048) (h : Fin 2) (d : Fin 128) :
    max (x (ix3 b i (colK h d))) (-(x (ix3 b i (colK h d)))) ≤ val_main_v33 (F := Ideal) x (ix2 b h) := by
  rw [← k_entry (x := x) b i h d]
  exact le_reduce_max13 (val_main_v32 (F := Ideal) x) _ _ _ (fun i => ofBits_neg_inf) b h i d

variable {b : Fin 9} {h : Fin 2} (hok : OkBlock (blkK f b h))

include hok

theorem k_exp : val_main_v46 (F := Ideal) x (ix2 b h) = ((qexp (mag (blkK f b h)) : ℝ) : EReal) := by
  rw [v46_eq, k_mag hx, refExp_coe hok.mag]

theorem k_scale : val_main_v50 (F := Ideal) x (ix2 b h) = ((scl (blkK f b h) : ℝ) : EReal) := by
  rw [v50_eq, k_exp hx hok, refPow_coe]; rfl

theorem k_inv : val_main_v55 (F := Ideal) x (ix2 b h) = (((2 : ℝ) ^ (-qexp (mag (blkK f b h))) : ℝ) : EReal) := by
  rw [v55_eq, k_exp hx hok, ← refPow_coe, Int.cast_neg, EReal.coe_neg]; rfl

theorem k_codes (i : Fin 2048) (d : Fin 128) :
    val_main_v59 (F := Ideal) x (ix4 b i h d) = ((cod (blkK f b h) i d : ℝ) : EReal) := by
  rw [v59_eq, k_arg hx, k_inv hx hok, refCode_coe]; rfl

theorem v_scale : val_main_v80 (F := Ideal) x (ix2 b h) = ((scl (blkK f b h) : ℝ) : EReal) := by
  rw [v80_eq]; exact k_scale hx hok
theorem v_codes (i : Fin 2048) (d : Fin 128) :
    val_main_v89 (F := Ideal) x (ix4 b i h d) = ((cod (blkK f b h) i d : ℝ) : EReal) := by
  rw [v89_eq]; exact k_codes hx hok i d

end K

end Cert.ReferenceIdeal.Read

end
-- ==== Proof.InRange.lean ====
/-
  What the precondition says over the reals: every entry of the arguments is a real number, and the largest magnitude of
  each block of one batch and one head is zero or between the bounds.
-/
module

public import proofs.«01_k».proof.Pre_in_range
public import proofs.«01_k».proof.Proof.RefQuant

@[expose] public section

noncomputable section

namespace Cert.InRange

open Cert.Quant Idealize.ShloMosaic Cert.Pre_in_range Cert.ReferenceIdeal.Read

instance facts : Cert.Pre_in_range.Facts where
  shapeCasts_S9x2048x1024_S9x2048x8x128 := Cert.ReferenceIdeal.Gen.facts.shapeCasts_S9x2048x1024_S9x2048x8x128
  bitsLt_bf16_f32 := Cert.ReferenceIdeal.Gen.facts.bitsLt_bf16_f32
  reducesTo_S9x2048x8x128_S9x8_d1_3 := Cert.ReferenceIdeal.Gen.facts.reducesTo_S9x2048x8x128_S9x8_d1_3
  h_S_ := Cert.ReferenceIdeal.Gen.facts.h_S_
  bcast_S_S9x8 := Cert.ReferenceIdeal.Gen.facts.bcast_S_S9x8
  shapeCasts_S9x2048x256_S9x2048x2x128 := Cert.ReferenceIdeal.Gen.facts.shapeCasts_S9x2048x256_S9x2048x2x128
  reducesTo_S9x2048x2x128_S9x2_d1_3 := Cert.ReferenceIdeal.Gen.facts.reducesTo_S9x2048x2x128_S9x2_d1_3
  bcast_S_S9x2 := Cert.ReferenceIdeal.Gen.facts.bcast_S_S9x2

/-- The precondition of one block, given its largest magnitude. -/
def okBit {F : FTy → Type} [FloatOps F] (a : F .f32) : BitVec 1 :=
  IntOp.ori (FloatOps.cmpf .oeq a (FloatOps.ofBits .f32 0x00000000#32))
    (IntOp.andi (FloatOps.cmpf .oge a (FloatOps.ofBits .f32 0x04800000#32)) (FloatOps.cmpf .ole a (FloatOps.ofBits .f32 0x7F7F0000#32)))

section Parts

variable {F : FTy → Type} [FloatOps F] (a0 : FVec F S9x2048x1024 .bf16) (a1 a2 : FVec F S9x2048x256 .bf16)

theorem fn0 (j : S9x8.Idx) : (fn a0 a1 a2).1 j = okBit (val_main_v3 (F := F) a0 j) := rfl
theorem fn1 (j : S9x2.Idx) : (fn a0 a1 a2).2.1 j = okBit (val_main_v33 (F := F) a1 j) := rfl
theorem fn2 (j : S9x2.Idx) : (fn a0 a1 a2).2.2 j = okBit (val_main_v33 (F := F) a2 j) := rfl

end Parts

theorem low : Ideal.ofBits .f32 0x04800000#32 = (((2 : ℝ) ^ (-118 : ℤ) : ℝ) : EReal) := by
  simp [Ideal.ofBits, Ideal.ieee, -EReal.coe_mul]; norm_num
theorem high : ∃ r : ℝ, Ideal.ofBits .f32 0x7F7F0000#32 = (r : EReal) ∧ r ≤ (2 : ℝ) ^ (128 : ℤ) := by
  refine ⟨_, by simp [Ideal.ofBits, Ideal.ieee, -EReal.coe_mul]; rfl, by norm_num⟩

theorem or_one (a b : BitVec 1) : IntOp.ori a b = 1#1 ↔ a = 1#1 ∨ b = 1#1 := by revert a b; decide
theorem and_one (a b : BitVec 1) : IntOp.andi a b = 1#1 ↔ a = 1#1 ∧ b = 1#1 := by revert a b; decide
theorem bool_one (b : Bool) : BitVec.ofBool b = 1#1 ↔ b = true := by revert b; decide

theorem okBit_iff (a : EReal) (h : okBit (F := Ideal) a = 1#1) :
    (∃ u : ℝ, a ≤ (u : EReal)) ∧ ∀ r : ℝ, a = (r : EReal) → Ok r := by
  have h' : IntOp.ori (Ideal.cmp .oeq a (Ideal.ofBits .f32 0x00000000#32))
      (IntOp.andi (Ideal.cmp .oge a (Ideal.ofBits .f32 0x04800000#32)) (Ideal.cmp .ole a (Ideal.ofBits .f32 0x7F7F0000#32))) = 1#1 := h
  rw [or_one, and_one, Ideal.ofBits_zero_f32, low] at h'
  obtain ⟨u, hu, hu'⟩ := high
  rw [hu] at h'
  simp only [Ideal.cmp, bool_one, decide_eq_true_eq] at h'
  rcases h' with h' | ⟨h1, h2⟩
  · exact ⟨⟨0, h'.le⟩, fun r e => Or.inl (by rw [e] at h'; exact_mod_cast h')⟩
  · refine ⟨⟨u, h2⟩, fun r e => Or.inr ?_⟩
    rw [e] at h1 h2
    exact ⟨EReal.coe_le_coe_iff.mp h1, (EReal.coe_le_coe_iff.mp h2).trans hu'⟩

/-- An extended real whose magnitude is bounded is a real. -/
theorem real_of_le (x a : EReal) (h : max x (-x) ≤ a) (hu : ∃ u : ℝ, a ≤ (u : EReal)) : ∃ r : ℝ, x = (r : EReal) := by
  obtain ⟨u, hu⟩ := hu
  have h' := h.trans hu
  induction x with
  | bot => simp at h'
  | top => simp at h'
  | coe r => exact ⟨r, rfl⟩

theorem q_real (x : FVec Ideal S9x2048x1024 .bf16) (h : ∀ j, okBit (F := Ideal) (val_main_v3 (F := Ideal) x j) = 1#1) :
    ∃ f : Fin 9 → Fin 2048 → Fin 1024 → ℝ, (∀ b i n, x (ix3 b i n) = ((f b i n : ℝ) : EReal)) ∧ ∀ b h, OkBlock (blkQ f b h) := by
  have hr : ∀ b i n, ∃ r : ℝ, x (ix3 b i n) = (r : EReal) := fun b i n => by
    have hn := n.isLt
    have e : n = colQ ⟨n.val / 128, by omega⟩ ⟨n.val % 128, by omega⟩ := Fin.ext (by show n.val = 128 * (n.val / 128) + n.val % 128; omega)
    rw [e]
    exact real_of_le _ _ (q_le_mag b i _ _) (okBit_iff _ (h _)).1
  choose f hf using hr
  exact ⟨f, hf, fun b g => (okBit_iff _ (h (ix2 b g))).2 _ (q_mag hf b g)⟩

theorem k_real (x : FVec Ideal S9x2048x256 .bf16) (h : ∀ j, okBit (F := Ideal) (val_main_v33 (F := Ideal) x j) = 1#1) :
    ∃ f : Fin 9 → Fin 2048 → Fin 256 → ℝ, (∀ b i n, x (ix3 b i n) = ((f b i n : ℝ) : EReal)) ∧ ∀ b g, OkBlock (blkK f b g) := by
  have hr : ∀ b i n, ∃ r : ℝ, x (ix3 b i n) = (r : EReal) := fun b i n => by
    have hn := n.isLt
    have e : n = colK ⟨n.val / 128, by omega⟩ ⟨n.val % 128, by omega⟩ := Fin.ext (by show n.val = 128 * (n.val / 128) + n.val % 128; omega)
    rw [e]
    exact real_of_le _ _ (k_le_mag b i _ _) (okBit_iff _ (h _)).1
  choose f hf using hr
  exact ⟨f, hf, fun b g => (okBit_iff _ (h (ix2 b g))).2 _ (k_mag hf b g)⟩

/-- The real numbers of the arguments. -/
theorem exists_real (a0 : FVec Ideal S9x2048x1024 .bf16) (a1 a2 : FVec Ideal S9x2048x256 .bf16)
    (h0 : (fn a0 a1 a2).1 = fun _ => 1#1) (h1 : (fn a0 a1 a2).2.1 = fun _ => 1#1) (h2 : (fn a0 a1 a2).2.2 = fun _ => 1#1) :
    ∃ (fq : Fin 9 → Fin 2048 → Fin 1024 → ℝ) (fk fv : Fin 9 → Fin 2048 → Fin 256 → ℝ),
      (∀ b i n, a0 (ix3 b i n) = ((fq b i n : ℝ) : EReal)) ∧ (∀ b i n, a1 (ix3 b i n) = ((fk b i n : ℝ) : EReal))
      ∧ (∀ b i n, a2 (ix3 b i n) = ((fv b i n : ℝ) : EReal))
      ∧ (∀ b h, OkBlock (blkQ fq b h)) ∧ (∀ b g, OkBlock (blkK fk b g)) ∧ (∀ b g, OkBlock (blkK fv b g)) := by
  obtain ⟨fq, hq, oq⟩ := q_real a0 fun j => (fn0 a0 a1 a2 j).symm.trans (congrFun h0 j)
  obtain ⟨fk, hk, ok⟩ := k_real a1 fun j => (fn1 a0 a1 a2 j).symm.trans (congrFun h1 j)
  obtain ⟨fv, hv, ov⟩ := k_real a2 fun j => (fn2 a0 a1 a2 j).symm.trans (congrFun h2 j)
  exact ⟨fq, fk, fv, hq, hk, hv, oq, ok, ov⟩

end Cert.InRange

end
-- ==== Proof.Reads.lean ====
/-
  The tiles of a grid step over the reals: what is read back of the codes of queries, keys and values, and the value of a
  stored tile of the output.
-/
module

public import proofs.«01_k».proof.Proof.Window

@[expose] public section

noncomputable section

namespace Cert.KernelIdeal.Tile

open Cert.Quant Idealize.ShloMosaic Cert.KernelIdeal Cert.KernelIdeal.Gen Cert.KernelIdeal.Facts

/-! ## The tiles read back -/

/-- Dropping and adding leading unit axes. -/
theorem drop2 (v : FVec Ideal S1x1x256x128 .fp8e4m3) (y : Fin 256) (d : Fin 128) :
    shapeCast S256x128 v shapeCasts_S1x1x256x128_S256x128 (ix2 y d) = v (ix4 0 0 y d) := by pointwise

theorem drop1 (v : FVec Ideal S1x256x128 .fp8e4m3) (y : Fin 256) (d : Fin 128) :
    shapeCast S256x128 v shapeCasts_S1x256x128_S256x128 (ix2 y d) = v (ix3 0 y d) := by pointwise

theorem add2 (v : FVec Ideal S2048x128 .fp8e4m3) (y : Fin 2048) (d : Fin 128) :
    shapeCast S1x1x2048x128 v shapeCasts_S2048x128_S1x1x2048x128 (ix4 0 0 y d) = v (ix2 y d) := by pointwise

theorem add1 (v : FVec Ideal S2048x128 .fp8e4m3) (y : Fin 2048) (d : Fin 128) :
    shapeCast S1x2048x128 v shapeCasts_S2048x128_S1x2048x128 (ix3 0 y d) = v (ix2 y d) := by pointwise

/-- A rectangle of unit stride read back from a last store through another: the index moved by the two offsets. -/
theorem read_last {s : Shape} {e : EltTy} (v : View sig .tc .vmem s e) (r : Rect s) (w : r.shape.Idx → Elt Ideal e)
    (L : List (View.Piece (Elt Ideal) s e)) (r' : Rect s) (j : r'.shape.Idx) (i : r.shape.Idx)
    (h : r'.emb j = r.emb i) : v.readCov (⟨r, w⟩ :: L) r'.toLoadRect j = w i := by
  rw [View.readCov_eq_canon']
  show View.canon (⟨r, w⟩ :: L) (r'.emb j) = _
  rw [h, View.canon_cons_emb]

theorem keyRect_emb (t : ℕ) (y : Fin 256) (d : Fin 128) : (keyRect t).emb (ix4 0 0 y d)
    = (Rect.unit (s := S1x1x2048x128) ![0, 0, 0, 0] S1x1x2048x128.size cPieces_inb).emb (ix4 0 0 (pos t y) d) := by
  funext a; apply Fin.ext; fin_cases a
  · rfl
  · rfl
  · show 256 * (t % 8) + 1 * y.val = 0 + 1 * (256 * (t % 8) + y.val); omega
  · rfl

theorem valRect_emb (t : ℕ) (d : Fin 128) (y : Fin 256) : (valRect t).emb (ix2 d y)
    = (Rect.unit (s := S128x2048) ![0, 0] S128x2048.size vtPieces_inb).emb (ix2 d (pos t y)) := by
  funext a; apply Fin.ext; fin_cases a
  · rfl
  · show 256 * (t % 8) + 1 * y.val = 0 + 1 * (256 * (t % 8) + y.val); omega

theorem tileRect_emb (h t : ℕ) (y : Fin 256) (d : Fin 128) : (tileRect h t).emb (ix3 0 y d)
    = (headRect h).emb (ix3 0 (pos t y) d) := by
  funext a; apply Fin.ext; fin_cases a
  · rfl
  · show 256 * (t % 8) + 1 * y.val = 0 + 1 * (256 * (t % 8) + y.val); omega
  · rfl

section Step

variable (a6 : Memref sig .tc .vmem S1x2048x512 .fp8e4m3) (a7 : Memref sig .tc .vmem S1x1x2048x128 .fp8e4m3)
  (a12 : Memref sig .tc .vmem S128x2048 .fp8e4m3) (a13 : Memref sig .tc .vmem S1024x256 .f32)
  {xq : ℕ → FVec Ideal S2048x128 .bf16} {xk xv : FVec Ideal S2048x128 .bf16} {fq : ℕ → Fin 2048 → Fin 128 → ℝ}
  {fk fv : Fin 2048 → Fin 128 → ℝ}
  (hxq : ∀ h, Holds (xq h) (fq h)) (hxk : Holds xk fk) (hxv : Holds xv fv)
  (hoq : ∀ h, OkBlock (fq h)) (hok : OkBlock fk) (hov : OkBlock fv)

theorem kT_read (xk : FVec Ideal S2048x128 .bf16) (t : ℕ) (y : Fin 256) (d : Fin 128) :
    a7.view.readCov (cPieces xk) (keyRect t).toLoadRect (ix4 0 0 y d)
      = shapeCast S1x1x2048x128 (codes xk) shapeCasts_S2048x128_S1x1x2048x128 (ix4 0 0 (pos t y) d) :=
  read_last a7.view (Rect.unit (s := S1x1x2048x128) ![0, 0, 0, 0] S1x1x2048x128.size cPieces_inb)
    (shapeCast S1x1x2048x128 (codes xk) shapeCasts_S2048x128_S1x1x2048x128) [] (keyRect t) (ix4 0 0 y d) (ix4 0 0 (pos t y) d)
    (keyRect_emb t y d)

include hxk hok in
theorem kT_holds (t : ℕ) : Holds (kT a7 xk t) fun y d => cod fk (pos t y) d := fun y d =>
  (drop2 (a7.view.readCov (cPieces xk) (keyRect t).toLoadRect) y d).trans
    ((kT_read a7 xk t y d).trans ((add2 (codes xk) (pos t y) d).trans (codes_apply hxk hok (pos t y) d)))

theorem qT_read (xq : ℕ → FVec Ideal S2048x128 .bf16) (h t : ℕ) (x : Fin 256) (d : Fin 128) :
    a6.view.readCov (qPieces xq h) (tileRect h t).toLoadRect (ix3 0 x d)
      = shapeCast S1x2048x128 (codes (xq h)) shapeCasts_S2048x128_S1x2048x128 (ix3 0 (pos t x) d) := by
  cases h with
  | zero =>
    exact read_last a6.view (headRect 0) (shapeCast S1x2048x128 (codes (xq 0)) shapeCasts_S2048x128_S1x2048x128) []
      (tileRect 0 t) (ix3 0 x d) (ix3 0 (pos t x) d) (tileRect_emb 0 t x d)
  | succ h =>
    exact read_last a6.view (headRect (h + 1)) (shapeCast S1x2048x128 (codes (xq (h + 1))) shapeCasts_S2048x128_S1x2048x128)
      (qPieces xq h) (tileRect (h + 1) t) (ix3 0 x d) (ix3 0 (pos t x) d) (tileRect_emb (h + 1) t x d)

include hxq hoq in
theorem qT_holds (h t : ℕ) : Holds (qT a6 xq h t) fun x d => cod (fq h) (pos t x) d := fun x d =>
  (drop1 (a6.view.readCov (qPieces xq h) (tileRect h t).toLoadRect) x d).trans
    ((qT_read a6 xq h t x d).trans ((add1 (codes (xq h)) (pos t x) d).trans (codes_apply (hxq h) (hoq h) (pos t x) d)))

theorem codesT (v : FVec Ideal S2048x128 .fp8e4m3) (d : Fin 128) (y : Fin 2048) :
    shapeCast S128x2048 (transpose S128x2048 [1, 0] v transposes_S2048x128_p1_0_S128x2048) shapeCasts_S128x2048_S128x2048
      (ix2 d y) = v (ix2 y d) := by
  rw [shapeCast_self]
  pointwise

include hxv hov in
theorem vT_holds (t : ℕ) : Holds (vT a12 xv t) fun d y => cod fv (pos t y) d := fun d y =>
  (read_last a12.view (Rect.unit (s := S128x2048) ![0, 0] S128x2048.size vtPieces_inb)
    (shapeCast S128x2048 (transpose S128x2048 [1, 0] (codes xv) transposes_S2048x128_p1_0_S128x2048) shapeCasts_S128x2048_S128x2048)
    [] (valRect t) (ix2 d y) (ix2 d (pos t y)) (valRect_emb t d y)).trans
    ((codesT (codes xv) d (pos t y)).trans (codes_apply hxv hov (pos t y) d))

theorem factor_eq {F : FTy → Type} [FloatOps F] [Named F] (xq : ℕ → FVec F S2048x128 .bf16) (xk : FVec F S2048x128 .bf16) (h : ℕ) (j : S1x1.Idx) :
    factor xq xk h j = FloatOps.mulf (FloatOps.mulf (scaleOf (xq h) j) (scaleOf xk j)) (Named.named κ "sm_scale_log2e" 0x3E0293EE#32) := rfl

theorem sm_scale : Named.named (F := Ideal) κ "sm_scale_log2e" (φ := .f32) 0x3E0293EE#32 = (((Real.sqrt 128 * Real.log 2)⁻¹ : ℝ) : EReal) :=
  IdealRules.named_const.ideal_named_scalar κ "sm_scale_log2e" _ _ rfl

theorem mul3 {a b c : EReal} {x y z : ℝ} (ha : a = x) (hb : b = y) (hc : c = z) : a * b * c = ((x * y * z : ℝ) : EReal) := by
  subst ha hb hc; rw [EReal.coe_mul, EReal.coe_mul]

include hxq hxk hoq hok in
theorem factor_apply (h : ℕ) : factor xq xk h (ix2 0 0)
    = ((scl (fq h) * scl fk * (Real.sqrt 128 * Real.log 2)⁻¹ : ℝ) : EReal) := by
  rw [factor_eq]
  exact mul3 (scaleOf_apply (hxq h) (hoq h) _) (scaleOf_apply hxk hok _) sm_scale

include hxq hxk hxv hoq hok hov in
/-- **A stored tile of the output is the attention of its queries.** -/
theorem tile_apply {h t : ℕ} (ht : t < 8) (L : List (View.Piece (Elt Ideal) S1024x256 .f32)) (z : Fin 1) (x : Fin 256) (d : Fin 128) :
    tile a6 a7 a12 a13 xq xk xv h t L (ix3 z x d) = ((attn (fq h) fk fv (pos t x) d : ℝ) : EReal) := by
  have hγ : 0 < scl (fq h) * scl fk * (Real.sqrt 128 * Real.log 2)⁻¹ :=
    mul_pos (mul_pos (scl_pos _) (scl_pos _)) (inv_pos.2 (mul_pos (by positivity) (Real.log_pos (by norm_num))))
  unfold tile
  refine (attend_apply a13 L (min_le_right _ _) (qT_holds a6 hxq hoq h t) (kT_holds a7 hxk hok t) (kT_holds a7 hxk hok (t - 4))
    (fun i => kT_holds a7 hxk hok (t - min t 3 + i)) (vT_holds a12 hxv hov t) (vT_holds a12 hxv hov (t - 4))
    (fun i => vT_holds a12 hxv hov (t - min t 3 + i)) (factor_apply hxq hxk hoq hok h) hγ (scaleOf_apply hxv hov _) z x d).trans ?_
  have hw : ∀ j, wt (scl (fq h) * scl fk * (Real.sqrt 128 * Real.log 2)⁻¹) (∑ e, cod fk j e * cod (fq h) (pos t x) e)
      = Real.exp (scl (fq h) * scl fk / Real.sqrt 128 * ∑ e, cod (fq h) (pos t x) e * cod fk j e) := fun j => by
    unfold wt
    have : Real.log 2 ≠ 0 := (Real.log_pos (by norm_num)).ne'
    rw [Finset.sum_congr rfl fun e _ => mul_comm (cod fk j e) (cod (fq h) (pos t x) e)]
    congr 2
    field_simp
  unfold attn dotKQ
  simp only [hw]
  rw [reach_eq ht x fun j => Real.exp (scl (fq h) * scl fk / Real.sqrt 128 * ∑ e, cod (fq h) (pos t x) e * cod fk j e) * cod fv j d,
    reach_eq ht x fun j => Real.exp (scl (fq h) * scl fk / Real.sqrt 128 * ∑ e, cod (fq h) (pos t x) e * cod fk j e)]

end Step

end Cert.KernelIdeal.Tile

end
-- ==== Proof.Pieces.lean ====
/-
  What the body of the kernel stores in one grid step, in both of its cases (the first grid step, which clears the scales,
  and the others), is what `Tile.lean` writes down.
-/
module

public import proofs.«01_k».proof.Proof.Tile
public import proofs.«01_k».proof.Proof.Gen.KernelIdeal.Frame.RunB

@[expose] public section

set_option maxRecDepth 16384

noncomputable section

namespace Cert.KernelIdeal.Tile

open Idealize.ShloMosaic Cert.KernelIdeal Cert.KernelIdeal.Gen Cert.KernelIdeal.Facts Idealize.SL.Sem

variable {F : FTy → Type} [FloatOps F] [Named F]

/-- A block of the keys or of the values as the body loads it. -/
def ldK (a : Memref sig .tc .vmem S1x2048x128 .bf16) (ha : a.IsWhole) (x : Vec F S1x2048x128 .bf16) : FVec F S2048x128 .bf16 :=
  shapeCast S2048x128 (View.readAt (Elt F) a.view
    (Rect.unit ![0, 0, 0] S1x2048x128.size inb_S1x2048x128_S1x2048x128_0_0_0).toLoadRect (ha.unread x))
    shapeCasts_S1x2048x128_S2048x128

/-- The columns of head `h` of a block of the queries as the body loads it. -/
def ldQ (a : Memref sig .tc .vmem S1x2048x512 .bf16) (ha : a.IsWhole) (x : Vec F S1x2048x512 .bf16) (h : ℕ) :
    FVec F S2048x128 .bf16 :=
  shapeCast S2048x128 (View.readAt (Elt F) a.view (headRect h).toLoadRect (ha.unread x)) shapeCasts_S1x2048x128_S2048x128

/-- `old` with the entry at row `r` and column `b` replaced by `val`: the scales of the queries, of the keys or values. -/
def putQ (r b : BitVec 32) (val : FVec F S1x1 .f32) (old : Vec F S8x9 .f32) : FVec F S8x9 .f32 :=
  select (andi (cmpi .eq (iota .tc S8x9 32 [0] iota_S8x9_d0_w32) (broadcast S8x9 r))
      (cmpi .eq (iota .tc S8x9 32 [1] iota_S8x9_d1_w32) (broadcast S8x9 b)))
    (broadcastTo S8x9 (shapeCast S1x1 val shapeCasts_S1x1_S1x1) broadcasts_S1x1_S8x9) (shapeCast S8x9 old shapeCasts_S8x9_S8x9)
def putK (r b : BitVec 32) (val : FVec F S1x1 .f32) (old : Vec F S2x9 .f32) : FVec F S2x9 .f32 :=
  select (andi (cmpi .eq (iota .tc S2x9 32 [0] iota_S2x9_d0_w32) (broadcast S2x9 r))
      (cmpi .eq (iota .tc S2x9 32 [1] iota_S2x9_d1_w32) (broadcast S2x9 b)))
    (broadcastTo S2x9 (shapeCast S1x1 val shapeCasts_S1x1_S1x1) broadcasts_S1x1_S2x9) (shapeCast S2x9 old shapeCasts_S2x9_S2x9)

/-- The whole of the query scales, and of the key or value scales. -/
def allQ : Rect S8x9 := Rect.unit ![0, 0] S8x9.size inb_S8x9_S8x9_0_0
def allK : Rect S2x9 := Rect.unit ![0, 0] S2x9.size inb_S2x9_S2x9_0_0

/-- The stores of the query scales of heads `0 … h`, over earlier stores `L` that hold `old`. -/
def qsPieces (a9 : Memref sig .tc .vmem S8x9 .f32) (g b : BitVec 32) (val : ℕ → FVec F S1x1 .f32)
    (L : List (View.Piece (Elt F) S8x9 .f32)) (old : Vec F S8x9 .f32) : ℕ → List (View.Piece (Elt F) S8x9 .f32)
  | 0 => ⟨allQ, putQ (Scalar.addi (Scalar.muli g 4#32) 0#32) b (val 0) old⟩ :: L
  | h + 1 => ⟨allQ, putQ (Scalar.addi (Scalar.muli g 4#32) (BitVec.ofNat 32 (h + 1))) b (val (h + 1))
      (a9.view.readCov (qsPieces a9 g b val L old h) allQ.toLoadRect)⟩ :: qsPieces a9 g b val L old h

/-- The stores that clear the scales. -/
def zeroQ : List (View.Piece (Elt F) S8x9 .f32) := [⟨allQ, broadcast S8x9 (Scalar.ofBits .f32 0x00000000#32)⟩]
def zeroK : List (View.Piece (Elt F) S2x9 .f32) := [⟨allK, broadcast S2x9 (Scalar.ofBits .f32 0x00000000#32)⟩]

/-- The output's stores: `j` tiles in order, last first, each over some earlier stores of scores. -/
inductive Outs (a6 : Memref sig .tc .vmem S1x2048x512 .fp8e4m3) (a7 : Memref sig .tc .vmem S1x1x2048x128 .fp8e4m3)
    (a12 : Memref sig .tc .vmem S128x2048 .fp8e4m3) (a13 : Memref sig .tc .vmem S1024x256 .f32)
    (xq : ℕ → FVec F S2048x128 .bf16) (xk xv : FVec F S2048x128 .bf16) :
    ℕ → List (View.Piece (Elt F) S1x2048x512 .bf16) → Prop
  | nil : Outs a6 a7 a12 a13 xq xk xv 0 []
  | cons {j L l} : Outs a6 a7 a12 a13 xq xk xv j l →
      Outs a6 a7 a12 a13 xq xk xv (j + 1) (⟨tileRect (j / 8) (j % 8), tile a6 a7 a12 a13 xq xk xv (j / 8) (j % 8) L⟩ :: l)

variable (c : Dev nD) (i : grid0.Coords) (arg2 : Memref sig .tc .vmem S1x2048x512 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x512 .bf16) (harg5 : arg5.IsWhole)
  (arg6 : Memref sig .tc .vmem S1x2048x512 .fp8e4m3) (harg6 : arg6.IsWhole)
  (arg7 : Memref sig .tc .vmem S1x1x2048x128 .fp8e4m3) (harg7 : arg7.IsWhole)
  (arg8 : Memref sig .tc .vmem S1x1x2048x128 .fp8e4m3) (harg8 : arg8.IsWhole) (arg9 : Memref sig .tc .vmem S8x9 .f32)
  (harg9 : arg9.IsWhole) (arg10 : Memref sig .tc .vmem S2x9 .f32) (harg10 : arg10.IsWhole)
  (arg11 : Memref sig .tc .vmem S2x9 .f32) (harg11 : arg11.IsWhole) (arg12 : Memref sig .tc .vmem S128x2048 .fp8e4m3)
  (harg12 : arg12.IsWhole) (arg13 : Memref sig .tc .vmem S1024x256 .f32) (harg13 : arg13.IsWhole)
  (arg14 : Memref sig .tc .vmem S1024x256 .fp8e4m3) (harg14 : arg14.IsWhole)
  (x0 : Vec F S1x2048x512 .bf16) (x1 : Vec F S1x2048x128 .bf16) (x2 : Vec F S1x2048x128 .bf16)
  (xo7 : Vec F S8x9 .f32) (xo8 xo9 : Vec F S2x9 .f32)

/-! ## The first grid step -/

section A
variable (hc0 : cond0_0 i)

set_option maxHeartbeats 4000000 in
theorem runA_outs : Outs arg6 arg7 arg12 arg13 (ldQ arg2 harg2 x0) (ldK arg3 harg3 x1) (ldK arg4 harg4 x2) 32
    (kernelRun0_A c i arg2 harg2 arg3 harg3 arg4 harg4 arg5 harg5 arg6 harg6 arg7 harg7 arg8 harg8 arg9 harg9 arg10 harg10
      arg11 harg11 arg12 harg12 arg13 harg13 arg14 harg14 hc0 x0 x1 x2).1 := by
  iterate 32 refine Outs.cons ?_
  exact Outs.nil

theorem runA_q : (kernelRun0_A c i arg2 harg2 arg3 harg3 arg4 harg4 arg5 harg5 arg6 harg6 arg7 harg7 arg8 harg8 arg9 harg9 arg10 harg10
      arg11 harg11 arg12 harg12 arg13 harg13 arg14 harg14 hc0 x0 x1 x2).2.1
    = qPieces (ldQ arg2 harg2 x0) 3 := rfl

theorem runA_k : (kernelRun0_A c i arg2 harg2 arg3 harg3 arg4 harg4 arg5 harg5 arg6 harg6 arg7 harg7 arg8 harg8 arg9 harg9 arg10 harg10
      arg11 harg11 arg12 harg12 arg13 harg13 arg14 harg14 hc0 x0 x1 x2).2.2.1
    = cPieces (ldK arg3 harg3 x1) := rfl

theorem runA_v : (kernelRun0_A c i arg2 harg2 arg3 harg3 arg4 harg4 arg5 harg5 arg6 harg6 arg7 harg7 arg8 harg8 arg9 harg9 arg10 harg10
      arg11 harg11 arg12 harg12 arg13 harg13 arg14 harg14 hc0 x0 x1 x2).2.2.2.1
    = cPieces (ldK arg4 harg4 x2) := rfl

theorem runA_qs : (kernelRun0_A c i arg2 harg2 arg3 harg3 arg4 harg4 arg5 harg5 arg6 harg6 arg7 harg7 arg8 harg8 arg9 harg9 arg10 harg10
      arg11 harg11 arg12 harg12 arg13 harg13 arg14 harg14 hc0 x0 x1 x2).2.2.2.2.1
    = qsPieces arg9 (BitVec.ofNat 32 (i 1)) (BitVec.ofNat 32 (i 0)) (fun h => scaleOf (ldQ arg2 harg2 x0 h)) zeroQ (arg9.view.readCov zeroQ allQ.toLoadRect) 3 := rfl

theorem runA_ks : (kernelRun0_A c i arg2 harg2 arg3 harg3 arg4 harg4 arg5 harg5 arg6 harg6 arg7 harg7 arg8 harg8 arg9 harg9 arg10 harg10
      arg11 harg11 arg12 harg12 arg13 harg13 arg14 harg14 hc0 x0 x1 x2).2.2.2.2.2.1
    = ⟨allK, putK (BitVec.ofNat 32 (i 1)) (BitVec.ofNat 32 (i 0)) (scaleOf (ldK arg3 harg3 x1)) (arg10.view.readCov zeroK allK.toLoadRect)⟩ :: zeroK := rfl

theorem runA_vs : (kernelRun0_A c i arg2 harg2 arg3 harg3 arg4 harg4 arg5 harg5 arg6 harg6 arg7 harg7 arg8 harg8 arg9 harg9 arg10 harg10
      arg11 harg11 arg12 harg12 arg13 harg13 arg14 harg14 hc0 x0 x1 x2).2.2.2.2.2.2.1
    = ⟨allK, putK (BitVec.ofNat 32 (i 1)) (BitVec.ofNat 32 (i 0)) (scaleOf (ldK arg4 harg4 x2)) (arg11.view.readCov zeroK allK.toLoadRect)⟩ :: zeroK := rfl

end A

/-! ## The other grid steps -/

section B
variable (hc0 : ¬cond0_0 i)

set_option maxHeartbeats 4000000 in
theorem runB_outs : Outs arg6 arg7 arg12 arg13 (ldQ arg2 harg2 x0) (ldK arg3 harg3 x1) (ldK arg4 harg4 x2) 32
    (kernelRun0_B c i arg2 harg2 arg3 harg3 arg4 harg4 arg5 harg5 arg6 harg6 arg7 harg7 arg8 harg8 arg9 harg9 arg10 harg10
      arg11 harg11 arg12 harg12 arg13 harg13 arg14 harg14 hc0 x0 x1 x2 xo7 xo8 xo9).1 := by
  iterate 32 refine Outs.cons ?_
  exact Outs.nil

theorem runB_q : (kernelRun0_B c i arg2 harg2 arg3 harg3 arg4 harg4 arg5 harg5 arg6 harg6 arg7 harg7 arg8 harg8 arg9 harg9 arg10 harg10
      arg11 harg11 arg12 harg12 arg13 harg13 arg14 harg14 hc0 x0 x1 x2 xo7 xo8 xo9).2.1
    = qPieces (ldQ arg2 harg2 x0) 3 := rfl

theorem runB_k : (kernelRun0_B c i arg2 harg2 arg3 harg3 arg4 harg4 arg5 harg5 arg6 harg6 arg7 harg7 arg8 harg8 arg9 harg9 arg10 harg10
      arg11 harg11 arg12 harg12 arg13 harg13 arg14 harg14 hc0 x0 x1 x2 xo7 xo8 xo9).2.2.1
    = cPieces (ldK arg3 harg3 x1) := rfl

theorem runB_v : (kernelRun0_B c i arg2 harg2 arg3 harg3 arg4 harg4 arg5 harg5 arg6 harg6 arg7 harg7 arg8 harg8 arg9 harg9 arg10 harg10
      arg11 harg11 arg12 harg12 arg13 harg13 arg14 harg14 hc0 x0 x1 x2 xo7 xo8 xo9).2.2.2.1
    = cPieces (ldK arg4 harg4 x2) := rfl

theorem runB_qs : (kernelRun0_B c i arg2 harg2 arg3 harg3 arg4 harg4 arg5 harg5 arg6 harg6 arg7 harg7 arg8 harg8 arg9 harg9 arg10 harg10
      arg11 harg11 arg12 harg12 arg13 harg13 arg14 harg14 hc0 x0 x1 x2 xo7 xo8 xo9).2.2.2.2.1
    = qsPieces arg9 (BitVec.ofNat 32 (i 1)) (BitVec.ofNat 32 (i 0)) (fun h => scaleOf (ldQ arg2 harg2 x0 h)) [] (View.readAt (Elt F) arg9.view allQ.toLoadRect (harg9.unread xo7)) 3 := rfl

theorem runB_ks : (kernelRun0_B c i arg2 harg2 arg3 harg3 arg4 harg4 arg5 harg5 arg6 harg6 arg7 harg7 arg8 harg8 arg9 harg9 arg10 harg10
      arg11 harg11 arg12 harg12 arg13 harg13 arg14 harg14 hc0 x0 x1 x2 xo7 xo8 xo9).2.2.2.2.2.1
    = [⟨allK, putK (BitVec.ofNat 32 (i 1)) (BitVec.ofNat 32 (i 0)) (scaleOf (ldK arg3 harg3 x1)) (View.readAt (Elt F) arg10.view allK.toLoadRect (harg10.unread xo8))⟩] := rfl

theorem runB_vs : (kernelRun0_B c i arg2 harg2 arg3 harg3 arg4 harg4 arg5 harg5 arg6 harg6 arg7 harg7 arg8 harg8 arg9 harg9 arg10 harg10
      arg11 harg11 arg12 harg12 arg13 harg13 arg14 harg14 hc0 x0 x1 x2 xo7 xo8 xo9).2.2.2.2.2.2.1
    = [⟨allK, putK (BitVec.ofNat 32 (i 1)) (BitVec.ofNat 32 (i 0)) (scaleOf (ldK arg4 harg4 x2)) (View.readAt (Elt F) arg11.view allK.toLoadRect (harg11.unread xo9))⟩] := rfl

end B

end Cert.KernelIdeal.Tile

end
-- ==== Proof.Block.lean ====
/-
  What a grid step leaves in its block of each result, over the reals, given what its blocks of the arguments hold.
-/
module

public import proofs.«01_k».proof.Proof.Reads
public import proofs.«01_k».proof.Proof.Pieces
public import Idealize.ShloMosaic.Lib.WholeRead

@[expose] public section

noncomputable section

namespace Cert.KernelIdeal.Tile

open Cert.Quant Idealize.ShloMosaic Cert.KernelIdeal Cert.KernelIdeal.Gen Cert.KernelIdeal.Facts

/-- A block of four heads side by side. -/
def heads (φ : ℕ → Fin 2048 → Fin 128 → ℝ) (y : S1x2048x512.Idx) : EReal :=
  ((φ ((y 2).val / 128) ⟨(y 1).val, (y 1).isLt⟩ ⟨(y 2).val % 128, Nat.mod_lt _ (by norm_num)⟩ : ℝ) : EReal)

theorem heads_at (φ : ℕ → Fin 2048 → Fin 128 → ℝ) (y : S1x2048x512.Idx) (h : ℕ) (i : Fin 2048) (d : Fin 128)
    (h1 : (y 1).val = i.val) (h2 : (y 2).val = 128 * h + d.val) : heads φ y = ((φ h i d : ℝ) : EReal) := by
  unfold heads
  have hd := d.isLt
  rw [show (y 2).val / 128 = h by omega, show (⟨(y 1).val, (y 1).isLt⟩ : Fin 2048) = i from Fin.ext h1,
    show (⟨(y 2).val % 128, Nat.mod_lt _ (by norm_num)⟩ : Fin 128) = d from Fin.ext (by show (y 2).val % 128 = d.val; omega)]

section Stores

variable (a6 : Memref sig .tc .vmem S1x2048x512 .fp8e4m3) (a7 : Memref sig .tc .vmem S1x1x2048x128 .fp8e4m3)
  (a12 : Memref sig .tc .vmem S128x2048 .fp8e4m3) (a13 : Memref sig .tc .vmem S1024x256 .f32)
  {xq : ℕ → FVec Ideal S2048x128 .bf16} {xk xv : FVec Ideal S2048x128 .bf16} {fq : ℕ → Fin 2048 → Fin 128 → ℝ}
  {fk fv : Fin 2048 → Fin 128 → ℝ}
  (hxq : ∀ h, Holds (xq h) (fq h)) (hxk : Holds xk fk) (hxv : Holds xv fv)
  (hoq : ∀ h, OkBlock (fq h)) (hok : OkBlock fk) (hov : OkBlock fv)

include hxq hxk hxv hoq hok hov in
theorem tile_at {h t : ℕ} (hh : h < 4) (ht : t < 8) (L : List (View.Piece (Elt Ideal) S1024x256 .f32)) (x : S1x256x128.Idx) :
    tile a6 a7 a12 a13 xq xk xv h t L x = heads (fun h i d => attn (fq h) fk fv i d) ((tileRect h t).emb x) := by
  obtain ⟨z, y, d, rfl⟩ : ∃ (z : Fin 1) (y : Fin 256) (d : Fin 128), x = ix3 z y d := ⟨x 0, x 1, x 2, by funext a; fin_cases a <;> rfl⟩
  rw [tile_apply a6 a7 a12 a13 hxq hxk hxv hoq hok hov ht L z y d]
  refine (heads_at (fun h i d => attn (fq h) fk fv i d) ((tileRect h t).emb (ix3 z y d)) h (pos t y) d ?_ ?_).symm
  · show 256 * (t % 8) + 1 * y.val = 256 * (t % 8) + y.val; omega
  · show 128 * (h % 4) + 1 * d.val = 128 * h + d.val; omega

include hxq hxk hxv hoq hok hov in
/-- The output block. -/
theorem outs_at {j : ℕ} {l : List (View.Piece (Elt Ideal) S1x2048x512 .bf16)} (H : Outs a6 a7 a12 a13 xq xk xv j l) :
    j ≤ 32 → ∀ p ∈ l, ∀ x : p.1.shape.Idx, p.2 x = heads (fun h i d => attn (fq h) fk fv i d) (p.1.emb x) := by
  induction H with
  | nil => intro _ p hp; simp at hp
  | @cons j L l H ih =>
    intro hj p hp
    rcases List.mem_cons.1 hp with rfl | hp
    · exact fun x => tile_at a6 a7 a12 a13 hxq hxk hxv hoq hok hov (by omega) (by omega) L x
    · exact ih (by omega) p hp

include hxq hoq in
/-- The query codes' block. -/
theorem qPieces_at {n : ℕ} : n < 4 → ∀ p ∈ qPieces xq n, ∀ x : p.1.shape.Idx,
    p.2 x = heads (fun h i d => cod (fq h) i d) (p.1.emb x) := by
  have key : ∀ h < 4, ∀ x : S1x2048x128.Idx, shapeCast S1x2048x128 (codes (xq h)) shapeCasts_S2048x128_S1x2048x128 x
      = heads (fun h i d => cod (fq h) i d) ((headRect h).emb x) := fun h hh x => by
    obtain ⟨z, y, d, rfl⟩ : ∃ (z : Fin 1) (y : Fin 2048) (d : Fin 128), x = ix3 z y d := ⟨x 0, x 1, x 2, by funext a; fin_cases a <;> rfl⟩
    obtain rfl : z = 0 := Subsingleton.elim _ _
    rw [add1, codes_apply (hxq h) (hoq h)]
    refine (heads_at (fun h i d => cod (fq h) i d) ((headRect h).emb (ix3 0 y d)) h y d ?_ ?_).symm
    · show 0 + 1 * y.val = y.val; omega
    · show 128 * (h % 4) + 1 * d.val = 128 * h + d.val; omega
  induction n with
  | zero =>
    intro _ p hp
    rcases List.mem_cons.1 hp with rfl | hp
    · exact key 0 (by omega)
    · simp at hp
  | succ n ih =>
    intro hn p hp
    rcases List.mem_cons.1 hp with rfl | hp
    · exact key (n + 1) hn
    · exact ih (by omega) p hp

include hxk hok in
/-- The key or value codes' block. -/
theorem cPieces_at (y : Fin 2048) (d : Fin 128) : View.canon (cPieces xk) (ix4 0 0 y d) = ((cod fk y d : ℝ) : EReal) := by
  unfold cPieces
  rw [View.canon_unit_zero (by funext a; fin_cases a <;> rfl)]
  exact (add2 (codes xk) y d).trans (codes_apply hxk hok y d)

end Stores

/-! ## The scales -/

theorem cmp_small {x r : ℕ} (hx : x < 16) (hr : r < 16) : IntOp.cmpi .eq (BitVec.ofNat 32 x) (BitVec.ofNat 32 r) = BitVec.ofBool (decide (x = r)) := by
  rw [WordCmp.cmpi_eq_eq_toNat, BitVec.toNat_ofNat, BitVec.toNat_ofNat, Nat.mod_eq_of_lt (by omega), Nat.mod_eq_of_lt (by omega)]

theorem sel_small {α : Type} {x r y b : ℕ} (hx : x < 16) (hr : r < 16) (hy : y < 16) (hb : b < 16) (u v : α) :
    Scalar.select (IntOp.andi (IntOp.cmpi .eq (BitVec.ofNat 32 x) (BitVec.ofNat 32 r)) (IntOp.cmpi .eq (BitVec.ofNat 32 y) (BitVec.ofNat 32 b))) u v
      = if x = r ∧ y = b then u else v := by
  rw [cmp_small hx hr, cmp_small hy hb]
  by_cases h1 : x = r <;> by_cases h2 : y = b <;> simp [Scalar.select, IntOp.andi, h1, h2]

theorem putQ_apply {r b : ℕ} (hr : r < 8) (hb : b < 9) {val : FVec Ideal S1x1 .f32} {s : EReal} (hv : ∀ j, val j = s)
    (old : Vec Ideal S8x9 .f32) (x : Fin 8) (y : Fin 9) :
    putQ (BitVec.ofNat 32 r) (BitVec.ofNat 32 b) val old (ix2 x y) = if x.val = r ∧ y.val = b then s else old (ix2 x y) := by
  unfold putQ
  pointwise
  rw [hv]
  exact sel_small (by omega) (by omega) (by omega) (by omega) _ _

theorem putK_apply {r b : ℕ} (hr : r < 2) (hb : b < 9) {val : FVec Ideal S1x1 .f32} {s : EReal} (hv : ∀ j, val j = s)
    (old : Vec Ideal S2x9 .f32) (x : Fin 2) (y : Fin 9) :
    putK (BitVec.ofNat 32 r) (BitVec.ofNat 32 b) val old (ix2 x y) = if x.val = r ∧ y.val = b then s else old (ix2 x y) := by
  unfold putK
  pointwise
  rw [hv]
  exact sel_small (by omega) (by omega) (by omega) (by omega) _ _

theorem zero2 : (![0, 0] : Fin 2 → ℕ) = fun _ => 0 := by funext a; fin_cases a <;> rfl

theorem canon_allQ (w : Vec Ideal S8x9 .f32) (L : List (View.Piece (Elt Ideal) S8x9 .f32)) : View.canon (⟨allQ, w⟩ :: L) = w :=
  View.canon_cons_unit_zero zero2 _ w L
theorem canon_allK (w : Vec Ideal S2x9 .f32) (L : List (View.Piece (Elt Ideal) S2x9 .f32)) : View.canon (⟨allK, w⟩ :: L) = w :=
  View.canon_cons_unit_zero zero2 _ w L

theorem ld_allQ (X : Vec Ideal S8x9 .f32) (j : S8x9.Idx) : X (allQ.toLoadRect.idx j) = X j := congrFun (View.ld_unit_zero zero2 _ X) j
theorem ld_allK (X : Vec Ideal S2x9 .f32) (j : S2x9.Idx) : X (allK.toLoadRect.idx j) = X j := congrFun (View.ld_unit_zero zero2 _ X) j

theorem readCov_allQ (v : View sig .tc .vmem S8x9 .f32) (L : List (View.Piece (Elt Ideal) S8x9 .f32)) :
    v.readCov L allQ.toLoadRect = View.canon L := by
  rw [View.readCov_eq_canon']; exact funext fun j => ld_allQ (View.canon L) j
theorem readCov_allK (v : View sig .tc .vmem S2x9 .f32) (L : List (View.Piece (Elt Ideal) S2x9 .f32)) :
    v.readCov L allK.toLoadRect = View.canon L := by
  rw [View.readCov_eq_canon']; exact funext fun j => ld_allK (View.canon L) j

theorem readAt_allQ (a : Memref sig .tc .vmem S8x9 .f32) (ha : a.IsWhole) (X : Vec Ideal S8x9 .f32) :
    View.readAt (Elt Ideal) a.view allQ.toLoadRect (ha.unread X) = X :=
  funext fun j => (Memref.IsWhole.readAt_unread ha X _ j).trans (ld_allQ X j)
theorem readAt_allK (a : Memref sig .tc .vmem S2x9 .f32) (ha : a.IsWhole) (X : Vec Ideal S2x9 .f32) :
    View.readAt (Elt Ideal) a.view allK.toLoadRect (ha.unread X) = X :=
  funext fun j => (Memref.IsWhole.readAt_unread ha X _ j).trans (ld_allK X j)

theorem canon_zeroQ (j : S8x9.Idx) : View.canon (zeroQ (F := Ideal)) j = (0 : EReal) := by
  unfold zeroQ
  rw [canon_allQ]
  exact Ideal.ofBits_zero_f32
theorem canon_zeroK (j : S2x9.Idx) : View.canon (zeroK (F := Ideal)) j = (0 : EReal) := by
  unfold zeroK
  rw [canon_allK]
  exact Ideal.ofBits_zero_f32

theorem row_word {g h : ℕ} (hg : g < 2) (hh : h < 4) :
    Scalar.addi (Scalar.muli (BitVec.ofNat 32 g) 4#32) (BitVec.ofNat 32 h) = BitVec.ofNat 32 (4 * g + h) := by
  interval_cases g <;> interval_cases h <;> rfl

/-- The query scales after a step of group `g` and batch `b`. -/
theorem qs_at (a9 : Memref sig .tc .vmem S8x9 .f32) {g b : ℕ} (hg : g < 2) (hb : b < 9) {val : ℕ → FVec Ideal S1x1 .f32} {s : ℕ → EReal}
    (hv : ∀ h j, val h j = s h) (L : List (View.Piece (Elt Ideal) S8x9 .f32)) (old : Vec Ideal S8x9 .f32) {n : ℕ} (hn : n < 4) (x : Fin 8) (y : Fin 9) :
    View.canon (qsPieces a9 (BitVec.ofNat 32 g) (BitVec.ofNat 32 b) val L old n) (ix2 x y)
      = if y.val = b ∧ 4 * g ≤ x.val ∧ x.val ≤ 4 * g + n then s (x.val - 4 * g) else old (ix2 x y) := by
  induction n with
  | zero =>
    rw [qsPieces, canon_allQ, show (0#32 : BitVec 32) = BitVec.ofNat 32 0 from rfl, row_word hg hn, putQ_apply (by omega) hb (hv 0)]
    by_cases h : x.val = 4 * g + 0 ∧ y.val = b
    · rw [if_pos h, if_pos (by omega), h.1]; simp
    · rw [if_neg h, if_neg (by omega)]
  | succ n ih =>
    rw [qsPieces, canon_allQ, row_word hg hn]
    refine (putQ_apply (by omega) hb (hv (n + 1)) _ x y).trans ?_
    rw [show a9.view.readCov (qsPieces a9 (BitVec.ofNat 32 g) (BitVec.ofNat 32 b) val L old n) allQ.toLoadRect (ix2 x y)
      = _ from (congrFun (readCov_allQ _ _) (ix2 x y)).trans (ih (by omega))]
    by_cases h : x.val = 4 * g + (n + 1) ∧ y.val = b
    · rw [if_pos h, if_pos (by omega), h.1]; simp
    · rw [if_neg h]; exact if_congr (by omega) rfl rfl

/-! ## The blocks as they are loaded -/

theorem dropK (v : FVec Ideal S1x2048x128 .bf16) (y : Fin 2048) (d : Fin 128) :
    shapeCast S2048x128 v shapeCasts_S1x2048x128_S2048x128 (ix2 y d) = v (ix3 0 y d) := by pointwise

theorem ldK_apply (a : Memref sig .tc .vmem S1x2048x128 .bf16) (ha : a.IsWhole) (x : Vec Ideal S1x2048x128 .bf16) (y : Fin 2048) (d : Fin 128) :
    ldK a ha x (ix2 y d) = x (ix3 0 y d) := by
  unfold ldK
  refine (dropK _ y d).trans ((Memref.IsWhole.readAt_unread ha x _ _).trans ?_)
  exact congrFun (View.ld_unit_zero (by funext a; fin_cases a <;> rfl) _ x) (ix3 0 y d)

theorem ldQ_apply (a : Memref sig .tc .vmem S1x2048x512 .bf16) (ha : a.IsWhole) (x : Vec Ideal S1x2048x512 .bf16) (h : ℕ) (y : Fin 2048) (d : Fin 128) :
    ldQ a ha x h (ix2 y d) = x (ix3 0 y ⟨128 * (h % 4) + d.val, by omega⟩) := by
  unfold ldQ
  refine (dropK _ y d).trans ((Memref.IsWhole.readAt_unread ha x _ _).trans (congrArg x ?_))
  funext a; apply Fin.ext; fin_cases a
  · rfl
  · show 0 + 1 * y.val = y.val; omega
  · show 128 * (h % 4) + 1 * d.val = 128 * (h % 4) + d.val; omega

end Cert.KernelIdeal.Tile

end
-- ==== Proof.RefAttn.lean ====
/-
  The reference's results over the reals: its attention is `attn` of the codes and scales, and each of the other results is
  the codes or the scales themselves.
-/
module

public import proofs.«01_k».proof.Proof.RefQuant
public import proofs.«01_k».proof.Proof.Window

@[expose] public section

noncomputable section

namespace Cert.Quant

open Idealize.ShloMosaic

theorem mulf_coe (x y : ℝ) : FloatOps.mulf (F := Ideal) (φ := .f32) (x : EReal) (y : EReal) = ((x * y : ℝ) : EReal) :=
  (EReal.coe_mul x y).symm

theorem hostDivf_coe (x y : ℝ) (h : y ≠ 0) : FloatOps.hostDivf (F := Ideal) (φ := .f32) (x : EReal) (y : EReal) = ((x / y : ℝ) : EReal) :=
  div_coe x y h

theorem ofBits_128 : Ideal.ofBits .f32 0x43000000#32 = ((128 : ℝ) : EReal) := by
  simp [Ideal.ofBits, Ideal.ieee, -EReal.coe_mul]; norm_num

theorem sqrt_coe (r : ℝ) (h : 0 ≤ r) : FloatOps.hostUnary (F := Ideal) (φ := .f32) .sqrt (r : EReal) = ((Real.sqrt r : ℝ) : EReal) := by
  show (if r < 0 then ⊥ else (Real.sqrt r : EReal)) = _
  rw [if_neg (not_lt.2 h)]

theorem exp_sub_coe (s M : ℝ) :
    FloatOps.hostUnary (F := Ideal) (φ := .f32) .exp (FloatOps.subf (F := Ideal) (φ := .f32) (s : EReal) (M : EReal)) = ((Real.exp (s - M) : ℝ) : EReal) := by
  have e : FloatOps.subf (F := Ideal) (φ := .f32) (s : EReal) (M : EReal) = ((s - M : ℝ) : EReal) := (EReal.coe_sub s M).symm
  rw [e]; rfl

theorem exp_bot_sub (M : ℝ) :
    FloatOps.hostUnary (F := Ideal) (φ := .f32) .exp (FloatOps.subf (F := Ideal) (φ := .f32) (⊥ : EReal) (M : EReal)) = ((0 : ℝ) : EReal) := by
  have e : FloatOps.subf (F := Ideal) (φ := .f32) (⊥ : EReal) (M : EReal) = (⊥ : EReal) := EReal.bot_sub _
  rw [e]; rfl

/-- Head `r` of group `g`. -/
def hd (g : Fin 2) (r : Fin 4) : Fin 8 := ⟨4 * g.val + r.val, by omega⟩

/-- The scaled score of a query and a key. -/
def sco (q k : Fin 2048 → Fin 128 → ℝ) (i j : Fin 2048) : ℝ :=
  scl q * scl k / Real.sqrt 128 * ∑ e, cod q i e * cod k j e

/-- Subtracting a number from every score of a query does not change its attention. -/
theorem attn_shift (q k v : Fin 2048 → Fin 128 → ℝ) (i : Fin 2048) (d : Fin 128) (M : ℝ) :
    (∑ j, cod v j d * if Vis i j then Real.exp (sco q k i j - M) else 0) * scl v
        / (∑ j, if Vis i j then Real.exp (sco q k i j - M) else 0) = attn q k v i d ∧
      (∑ j, if Vis i j then Real.exp (sco q k i j - M) else 0) ≠ 0 := by
  have hw : ∀ j, (if Vis i j then Real.exp (sco q k i j - M) else 0) = Real.exp (-M) * if Vis i j then Real.exp (sco q k i j) else 0 := fun j => by
    split_ifs
    · rw [← Real.exp_add]; congr 1; ring
    · simp
  have h0 : ∀ j, 0 ≤ if Vis i j then Real.exp (sco q k i j) else 0 := fun j => by split_ifs <;> positivity
  have hp : 0 < ∑ j, if Vis i j then Real.exp (sco q k i j) else 0 := by
    refine lt_of_lt_of_le ?_ (Finset.single_le_sum (fun j _ => h0 j) (Finset.mem_univ i))
    rw [if_pos (show Vis i i from ⟨le_refl _, by omega⟩)]
    exact Real.exp_pos _
  have hM := Real.exp_pos (-M)
  simp only [hw]
  rw [← Finset.mul_sum]
  refine ⟨?_, (mul_pos hM hp).ne'⟩
  have e1 : (∑ j, cod v j d * (Real.exp (-M) * if Vis i j then Real.exp (sco q k i j) else 0))
      = Real.exp (-M) * ∑ j, if Vis i j then Real.exp (sco q k i j) * cod v j d else 0 := by
    rw [Finset.mul_sum]
    refine Finset.sum_congr rfl fun j _ => ?_
    split_ifs
    · ring
    · simp
  rw [e1]
  unfold attn
  show _ = (∑ j, if Vis i j then Real.exp (sco q k i j) * cod v j d else 0) * (scl v / ∑ j, if Vis i j then Real.exp (sco q k i j) else 0)
  field_simp

end Cert.Quant

namespace Cert.ReferenceIdeal.Read

open Cert.Quant Idealize.ShloMosaic Cert.ReferenceIdeal Cert.ReferenceIdeal.Gen

/-! ## The mask -/

theorem toInt_small (n : ℕ) (h : n < 2048) : (BitVec.ofNat 32 n).toInt = n := by
  rw [BitVec.toInt_eq_toNat_of_lt (by rw [BitVec.toNat_ofNat]; omega), BitVec.toNat_ofNat]
  omega

theorem v116_val (i j : Fin 2048) : val_main_v116 (F := Ideal) (ix2 i j) = if Vis i j then 1#1 else 0#1 := by
  have hi := i.isLt
  have hj := j.isLt
  have e108 : val_main_v108 (F := Ideal) (ix2 i j) = BitVec.ofNat 32 j.val := by rw [val_main_v108_apply, val_main_v107_apply]; rfl
  have e109 : val_main_v109 (F := Ideal) (ix2 i j) = BitVec.ofNat 32 i.val := by rw [val_main_v109_apply, val_main_v105_apply]; rfl
  have e113 : val_main_v113 (F := Ideal) (ix2 i j) = BitVec.ofNat 32 j.val := by rw [val_main_v113_apply, val_main_v107_apply]; rfl
  have e114 : val_main_v114 (F := Ideal) (ix2 i j) = BitVec.ofNat 32 i.val - 1024#32 := by
    rw [val_main_v114_apply, val_main_v112_apply, val_main_v111_apply, val_main_v105_apply]; rfl
  rw [val_main_v116_apply, val_main_v110_apply, val_main_v115_apply, e108, e109, e113, e114]
  have h1 : (BitVec.ofNat 32 j.val).toInt = j.val := toInt_small _ (by omega)
  have h2 : (BitVec.ofNat 32 i.val).toInt = i.val := toInt_small _ (by omega)
  have h3 : (BitVec.ofNat 32 i.val - 1024#32).toInt = (i.val : ℤ) - 1024 := by
    rw [BitVec.toInt_sub, h2]
    show Int.bmod ((i.val : ℤ) - 1024) _ = _
    simp only [Int.bmod]; omega
  have c1 : IntOp.cmpi .sle (BitVec.ofNat 32 j.val) (BitVec.ofNat 32 i.val) = BitVec.ofBool (decide (j.val ≤ i.val)) := by
    show BitVec.ofBool (BitVec.sle _ _) = _
    rw [BitVec.sle_eq_decide, h1, h2]
    congr 1
    simp
  have c2 : IntOp.cmpi .sgt (BitVec.ofNat 32 j.val) (BitVec.ofNat 32 i.val - 1024#32) = BitVec.ofBool (decide (i.val < j.val + 1024)) := by
    show BitVec.ofBool (BitVec.slt _ _) = _
    rw [BitVec.slt_eq_decide, h1, h3]
    congr 1
    exact decide_eq_decide.2 (by omega)
  rw [c1, c2]
  unfold Vis
  by_cases a : j.val ≤ i.val <;> by_cases b : i.val < j.val + 1024 <;> simp [a, b] <;> rfl

section Attn

variable {x0 : (⟨S9x2048x1024, .bf16⟩ : BufTy).Contents (Elt Ideal)} {x1 x2 : (⟨S9x2048x256, .bf16⟩ : BufTy).Contents (Elt Ideal)}
  {fq : Fin 9 → Fin 2048 → Fin 1024 → ℝ} {fk fv : Fin 9 → Fin 2048 → Fin 256 → ℝ}
  (hq : ∀ b i n, x0 (ix3 b i n) = ((fq b i n : ℝ) : EReal)) (hk : ∀ b i n, x1 (ix3 b i n) = ((fk b i n : ℝ) : EReal))
  (hv : ∀ b i n, x2 (ix3 b i n) = ((fv b i n : ℝ) : EReal))
  {b : Fin 9} {g : Fin 2} {r : Fin 4} (oq : OkBlock (blkQ fq b (hd g r))) (ok : OkBlock (blkK fk b g)) (ov : OkBlock (blkK fv b g))

include hq oq in
theorem v90_val (i : Fin 2048) (d : Fin 128) :
    val_main_v90 (F := Ideal) x0 (ix5 b i g r d) = ((cod (blkQ fq b (hd g r)) i d : ℝ) : EReal) := by
  rw [val_main_v90_apply]
  refine Eq.trans (congrArg (val_main_v29 (F := Ideal) x0) ?_) (q_codes hq oq i d)
  have := g.isLt; have := r.isLt; have := d.isLt; have := i.isLt; have := b.isLt
  funext a; apply Fin.ext; fin_cases a
  · show ((((b.val * 2048 + i.val) * 2 + g.val) * 4 + r.val) * 128 + d.val) / 2097152 = b.val; omega
  · show ((((b.val * 2048 + i.val) * 2 + g.val) * 4 + r.val) * 128 + d.val) / 1024 % 2048 = i.val; omega
  · show ((((b.val * 2048 + i.val) * 2 + g.val) * 4 + r.val) * 128 + d.val) / 128 % 8 = 4 * g.val + r.val; omega
  · show ((((b.val * 2048 + i.val) * 2 + g.val) * 4 + r.val) * 128 + d.val) % 128 = d.val; omega

include hq hk oq ok in
theorem v98_val : val_main_v98 (F := Ideal) x0 x1 (ix3 b g r)
    = ((scl (blkQ fq b (hd g r)) * scl (blkK fk b g) / Real.sqrt 128 : ℝ) : EReal) := by
  have := g.isLt; have := r.isLt; have := b.isLt
  have e91 : val_main_v91 (F := Ideal) x0 (ix3 b g r) = ((scl (blkQ fq b (hd g r)) : ℝ) : EReal) := by
    rw [val_main_v91_apply]
    refine Eq.trans (congrArg (val_main_v20 (F := Ideal) x0) ?_) (q_scale hq oq)
    funext a; apply Fin.ext; fin_cases a
    · show ((b.val * 2 + g.val) * 4 + r.val) / 8 = b.val; omega
    · show ((b.val * 2 + g.val) * 4 + r.val) % 8 = 4 * g.val + r.val; omega
  have e93 : val_main_v93 (F := Ideal) x1 (ix3 b g r) = ((scl (blkK fk b g) : ℝ) : EReal) := by
    rw [val_main_v93_apply, val_main_v92_apply]
    exact Eq.trans (congrArg (val_main_v50 (F := Ideal) x1) (by funext a; fin_cases a <;> rfl)) (k_scale hk ok)
  have e97 : val_main_v97 (F := Ideal) (ix3 b g r) = ((Real.sqrt 128 : ℝ) : EReal) := by
    rw [val_main_v97_apply, val_main_v96_apply, val_main_v95_apply, val_main_cst_23_apply]
    have e : FloatOps.ofBits (F := Ideal) .f32 0x43000000#32 = ((128 : ℝ) : EReal) := ofBits_128
    rw [e]
    exact sqrt_coe 128 (by norm_num)
  rw [val_main_v98_apply, val_main_v94_apply, e91, e93, e97, mulf_coe, hostDivf_coe _ _ (by positivity)]

include hq hk oq ok in
theorem v103_val (i j : Fin 2048) : val_main_v103 (F := Ideal) x0 x1 (ix5 b g r i j)
    = ((sco (blkQ fq b (hd g r)) (blkK fk b g) i j : ℝ) : EReal) := by
  have e100 : val_main_v100 (F := Ideal) x0 x1 (ix5 b g r i j)
      = ((∑ e, cod (blkQ fq b (hd g r)) i e * cod (blkK fk b g) j e : ℝ) : EReal) := by
    rw [val_main_v100_apply, val_main_v99_apply, coe_sum']
    refine Finset.sum_congr rfl fun e _ => ?_
    have l : lidx_main_v99 (idx_main_v100 (ix5 b g r i j)) e = ix4 b j g e := by funext a; fin_cases a <;> rfl
    have r' : ridx_main_v99 (idx_main_v100 (ix5 b g r i j)) e = ix5 b i g r e := by funext a; fin_cases a <;> rfl
    rw [l, r', k_codes hk ok, v90_val hq oq, ← EReal.coe_mul, mul_comm]
  have e102 : val_main_v102 (F := Ideal) x0 x1 (ix5 b g r i j)
      = ((scl (blkQ fq b (hd g r)) * scl (blkK fk b g) / Real.sqrt 128 : ℝ) : EReal) := by
    rw [val_main_v102_apply, val_main_v101_apply]
    exact Eq.trans (congrArg (val_main_v98 (F := Ideal) x0 x1) (by funext a; fin_cases a <;> rfl)) (v98_val hq hk oq ok)
  rw [val_main_v103_apply, e100, e102, mulf_coe]
  unfold sco
  rw [mul_comm]

include hq hk oq ok in
theorem v117_val (i j : Fin 2048) : val_main_v117 (F := Ideal) x0 x1 (ix5 b g r i j)
    = if Vis i j then ((sco (blkQ fq b (hd g r)) (blkK fk b g) i j : ℝ) : EReal) else ⊥ := by
  have e1 : val_main_call6_v1 (F := Ideal) (ix5 b g r i j) = if Vis i j then 1#1 else 0#1 := by
    rw [val_main_call6_v1_apply, ← v116_val]
    exact congrArg (val_main_v116 (F := Ideal)) (by funext a; fin_cases a <;> rfl)
  have e2 : val_main_call6_v2 (F := Ideal) (ix5 b g r i j) = (⊥ : EReal) := by
    rw [val_main_call6_v2_apply, val_main_call6_v0_apply, val_main_cst_24_apply]; exact ofBits_neg_inf
  rw [val_main_v117_apply, e1, e2, v103_val hq hk oq ok]
  split_ifs <;> rfl

theorem v118_val (x0 : (⟨S9x2048x1024, .bf16⟩ : BufTy).Contents (Elt Ideal)) (x1 : (⟨S9x2048x256, .bf16⟩ : BufTy).Contents (Elt Ideal))
    (b : Fin 9) (g : Fin 2) (r : Fin 4) (i : Fin 2048) : val_main_v118 (F := Ideal) x0 x1 (ix4 b g r i)
    = Finset.univ.fold max ⊥ fun j => val_main_v117 (F := Ideal) x0 x1 (ix5 b g r i j) := by
  unfold val_main_v118 val_main_cst_25
  generalize val_main_v117 (F := Ideal) x0 x1 = y
  pointwise
  rw [ofBits_neg_inf]

include hq hk oq ok in
theorem v122_val (i : Fin 2048) : ∃ M : ℝ, ∀ j, val_main_v122 (F := Ideal) x0 x1 (ix5 b g r i j)
    = ((if Vis i j then Real.exp (sco (blkQ fq b (hd g r)) (blkK fk b g) i j - M) else 0 : ℝ) : EReal) := by
  obtain ⟨M, hM⟩ := fold_max_real (fun j => val_main_v117 (F := Ideal) x0 x1 (ix5 b g r i j))
    (fun j => by rw [v117_val hq hk oq ok]; split_ifs <;> simp)
    ⟨i, by rw [v117_val hq hk oq ok, if_pos (show Vis i i from ⟨le_refl _, by omega⟩)]; simp⟩
  refine ⟨M, fun j => ?_⟩
  have e : val_main_v120 (F := Ideal) x0 x1 (ix5 b g r i j) = ((M : ℝ) : EReal) := by
    rw [val_main_v120_apply, val_main_v119_apply, ← hM, ← v118_val]
    exact congrArg (val_main_v118 (F := Ideal) x0 x1) (by funext a; fin_cases a <;> rfl)
  rw [val_main_v122_apply, val_main_v121_apply, e, v117_val hq hk oq ok]
  split_ifs
  · rw [exp_sub_coe]
  · exact exp_bot_sub M

include hq hk hv oq ok ov in
theorem v133_val (i : Fin 2048) (d : Fin 128) : val_main_v133 (F := Ideal) x0 x1 x2 (ix5 b i g r d)
    = ((attn (blkQ fq b (hd g r)) (blkK fk b g) (blkK fv b g) i d : ℝ) : EReal) := by
  obtain ⟨M, hM⟩ := v122_val hq hk oq ok i
  have e125 : val_main_v125 (F := Ideal) x0 x1 x2 (ix5 b i g r d)
      = ((∑ j, cod (blkK fv b g) j d * if Vis i j then Real.exp (sco (blkQ fq b (hd g r)) (blkK fk b g) i j - M) else 0 : ℝ) : EReal) := by
    rw [val_main_v125_apply, val_main_v124_apply, coe_sum']
    refine Finset.sum_congr rfl fun j _ => ?_
    have l : lidx_main_v124 (idx_main_v125 (ix5 b i g r d)) j = ix4 b j g d := by funext a; fin_cases a <;> rfl
    have r' : ridx_main_v124 (idx_main_v125 (ix5 b i g r d)) j = ix5 b g r i j := by funext a; fin_cases a <;> rfl
    rw [l, r', v_codes hv ov, hM, ← EReal.coe_mul]
  have e127 : val_main_v127 (F := Ideal) x2 (ix5 b i g r d) = ((scl (blkK fv b g) : ℝ) : EReal) := by
    rw [val_main_v127_apply, val_main_v126_apply]
    exact Eq.trans (congrArg (val_main_v80 (F := Ideal) x2) (by funext a; fin_cases a <;> rfl)) (v_scale hv ov)
  have e131 : val_main_v131 (F := Ideal) x0 x1 (ix5 b i g r d)
      = ((∑ j, if Vis i j then Real.exp (sco (blkQ fq b (hd g r)) (blkK fk b g) i j - M) else 0 : ℝ) : EReal) := by
    rw [val_main_v131_apply, val_main_v130_apply, val_main_v129_apply, val_main_v123_apply, val_main_cst_26_apply, coe_sum']
    have e0 : FloatOps.ofBits (F := Ideal) .f32 0x00000000#32 = (0 : EReal) := Ideal.ofBits_zero_f32
    rw [e0, zero_add]
    refine Finset.sum_congr rfl fun j _ => ?_
    rw [← hM]
    exact congrArg (val_main_v122 (F := Ideal) x0 x1) (by funext a; fin_cases a <;> rfl)
  obtain ⟨h1, h2⟩ := attn_shift (blkQ fq b (hd g r)) (blkK fk b g) (blkK fv b g) i d M
  rw [val_main_v133_apply, val_main_v132_apply, val_main_v128_apply, e125, e127, e131, mulf_coe, hostDivf_coe _ _ h2, h1]
  rfl

end Attn

/-! ## The results -/

section Results

variable {x0 : (⟨S9x2048x1024, .bf16⟩ : BufTy).Contents (Elt Ideal)} {x1 x2 : (⟨S9x2048x256, .bf16⟩ : BufTy).Contents (Elt Ideal)}
  {fq : Fin 9 → Fin 2048 → Fin 1024 → ℝ} {fk fv : Fin 9 → Fin 2048 → Fin 256 → ℝ}
  (hq : ∀ b i n, x0 (ix3 b i n) = ((fq b i n : ℝ) : EReal)) (hk : ∀ b i n, x1 (ix3 b i n) = ((fk b i n : ℝ) : EReal))
  (hv : ∀ b i n, x2 (ix3 b i n) = ((fv b i n : ℝ) : EReal))
  (oq : ∀ b h, OkBlock (blkQ fq b h)) (ok : ∀ b g, OkBlock (blkK fk b g)) (ov : ∀ b g, OkBlock (blkK fv b g))

include hq hk hv oq ok ov in
theorem out_val (b : Fin 9) (i : Fin 2048) (g : Fin 2) (r : Fin 4) (d : Fin 128) :
    val_main_v134 (F := Ideal) x0 x1 x2 (ix3 b i (colQ (hd g r) d))
      = ((attn (blkQ fq b (hd g r)) (blkK fk b g) (blkK fv b g) i d : ℝ) : EReal) := by
  rw [val_main_v134_apply]
  refine Eq.trans (congrArg (val_main_v133 (F := Ideal) x0 x1 x2) ?_) (v133_val hq hk hv (oq b (hd g r)) (ok b g) (ov b g) i d)
  have := g.isLt; have := r.isLt; have := d.isLt; have := i.isLt; have := b.isLt
  funext a; apply Fin.ext; fin_cases a
  · show ((b.val * 2048 + i.val) * 1024 + (128 * (4 * g.val + r.val) + d.val)) / 2097152 = b.val; omega
  · show ((b.val * 2048 + i.val) * 1024 + (128 * (4 * g.val + r.val) + d.val)) / 1024 % 2048 = i.val; omega
  · show ((b.val * 2048 + i.val) * 1024 + (128 * (4 * g.val + r.val) + d.val)) / 512 % 2 = g.val; omega
  · show ((b.val * 2048 + i.val) * 1024 + (128 * (4 * g.val + r.val) + d.val)) / 128 % 4 = r.val; omega
  · show ((b.val * 2048 + i.val) * 1024 + (128 * (4 * g.val + r.val) + d.val)) % 128 = d.val; omega

include hq oq in
theorem qc_val (b : Fin 9) (i : Fin 2048) (h : Fin 8) (d : Fin 128) :
    val_main_v136 (F := Ideal) x0 (ix3 b i (colQ h d)) = ((cod (blkQ fq b h) i d : ℝ) : EReal) := by
  rw [val_main_v136_apply, val_main_v135_apply]
  refine Eq.trans (congrArg (val_main_v29 (F := Ideal) x0) ?_) (q_codes hq (oq b h) i d)
  have := h.isLt; have := d.isLt; have := i.isLt; have := b.isLt
  funext a; apply Fin.ext; fin_cases a
  · show ((b.val * 2048 + i.val) * 1024 + (128 * h.val + d.val)) / 2097152 = b.val; omega
  · show ((b.val * 2048 + i.val) * 1024 + (128 * h.val + d.val)) / 1024 % 2048 = i.val; omega
  · show ((b.val * 2048 + i.val) * 1024 + (128 * h.val + d.val)) / 128 % 8 = h.val; omega
  · show ((b.val * 2048 + i.val) * 1024 + (128 * h.val + d.val)) % 128 = d.val; omega

include hk ok in
theorem kc_val (b : Fin 9) (g : Fin 2) (i : Fin 2048) (d : Fin 128) :
    val_main_v138 (F := Ideal) x1 (ix4 b g i d) = ((cod (blkK fk b g) i d : ℝ) : EReal) := by
  rw [val_main_v138_apply, val_main_v137_apply]
  exact Eq.trans (congrArg (val_main_v59 (F := Ideal) x1) (by funext a; fin_cases a <;> rfl)) (k_codes hk (ok b g) i d)

include hv ov in
theorem vc_val (b : Fin 9) (g : Fin 2) (i : Fin 2048) (d : Fin 128) :
    val_main_v140 (F := Ideal) x2 (ix4 b g i d) = ((cod (blkK fv b g) i d : ℝ) : EReal) := by
  rw [val_main_v140_apply, val_main_v139_apply]
  exact Eq.trans (congrArg (val_main_v89 (F := Ideal) x2) (by funext a; fin_cases a <;> rfl)) (v_codes hv (ov b g) i d)

include hq oq in
theorem qs_val (h : Fin 8) (b : Fin 9) : val_main_v141 (F := Ideal) x0 (ix2 h b) = ((scl (blkQ fq b h) : ℝ) : EReal) := by
  rw [val_main_v141_apply]
  exact Eq.trans (congrArg (val_main_v20 (F := Ideal) x0) (by funext a; fin_cases a <;> rfl)) (q_scale hq (oq b h))

include hk ok in
theorem ks_val (g : Fin 2) (b : Fin 9) : val_main_v142 (F := Ideal) x1 (ix2 g b) = ((scl (blkK fk b g) : ℝ) : EReal) := by
  rw [val_main_v142_apply]
  exact Eq.trans (congrArg (val_main_v50 (F := Ideal) x1) (by funext a; fin_cases a <;> rfl)) (k_scale hk (ok b g))

include hv ov in
theorem vs_val (g : Fin 2) (b : Fin 9) : val_main_v143 (F := Ideal) x2 (ix2 g b) = ((scl (blkK fv b g) : ℝ) : EReal) := by
  rw [val_main_v143_apply]
  exact Eq.trans (congrArg (val_main_v80 (F := Ideal) x2) (by funext a; fin_cases a <;> rfl)) (v_scale hv (ov b g))

end Results

end Cert.ReferenceIdeal.Read

end
-- ==== Proof.Steps.lean ====
/-
  What every grid step leaves in its blocks, over the reals: of the output, the codes and the scales.  A step works on one
  batch `t / 2` and one group of heads `t % 2`; the scales' block is shared by all the steps, each of which sets its own
  entries and keeps the others.
-/
module

public import proofs.«01_k».proof.Proof.Block
public import proofs.«01_k».proof.Proof.RefAttn
public import proofs.«01_k».proof.Proof.Gen.KernelIdeal.Value

@[expose] public section

noncomputable section

namespace Cert.KernelIdeal.Tile

open Cert.Quant Idealize.ShloMosaic Idealize.ShloMosaic.TcCoe Cert.KernelIdeal Cert.KernelIdeal.Gen Cert.KernelIdeal.Facts Idealize.SL.Sem

variable (m : (ℓ : Loc nD τ sig) → Buf (Elt Ideal) ℓ) (c : Dev nD)

theorem lt18 (t : Fin cfg0.N) : t.val < 18 := t.isLt
/-- The batch and the group of a grid step. -/
def bt (t : Fin cfg0.N) : Fin 9 := ⟨t.val / 2, by have := lt18 t; omega⟩
def gt (t : Fin cfg0.N) : Fin 2 := ⟨t.val % 2, by omega⟩

theorem coords0 (t : Fin cfg0.N) : (grid0.coords t 0).val = t.val / 2 := by
  have h : (grid0.coords t 0).val = t.val / 2 % 9 := Pipeline.Grid.coords_val t 0 (by decide) rfl
  have := lt18 t
  omega
theorem coords1 (t : Fin cfg0.N) : (grid0.coords t 1).val = t.val % 2 := by
  have h : (grid0.coords t 1).val = t.val / 1 % 2 := Pipeline.Grid.coords_val t 1 (by decide) rfl
  omega

theorem index0 : ∀ t : Fin cfg0.N, win0_0.index t 0 = t.val / 2 ∧ win0_0.index t 1 = 0 ∧ win0_0.index t 2 = t.val % 2 :=
  (by decide +kernel : ∀ t : Fin grid0.N, win0_0.index t 0 = t.val / 2 ∧ win0_0.index t 1 = 0 ∧ win0_0.index t 2 = t.val % 2)
theorem index1 : ∀ t : Fin cfg0.N, win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2)
theorem index2 : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)

theorem iblk0_at (t : Fin cfg0.N) (i : Fin 2048) (n : Fin 512) :
    iblk m c 0 t (ix3 0 i n) = m ((c : Thread nD τ).loc main_arg0) (ix3 (bt t) i ⟨512 * (t.val % 2) + n.val, by omega⟩) := by
  show m ((c : Thread nD τ).loc main_arg0) ((win0_0.rect t).emb (ix3 0 i n)) = _
  obtain ⟨e0, e1, e2⟩ := index0 t
  refine congrArg (m ((c : Thread nD τ).loc main_arg0)) ?_
  funext a; apply Fin.ext; fin_cases a
  · refine (win0_0.rect_emb_val t (ix3 0 i n) 0).trans ?_
    rw [e0]; show t.val / 2 * 1 + 0 = t.val / 2; omega
  · refine (win0_0.rect_emb_val t (ix3 0 i n) 1).trans ?_
    rw [e1]; show 0 * 2048 + i.val = i.val; omega
  · refine (win0_0.rect_emb_val t (ix3 0 i n) 2).trans ?_
    rw [e2]; show t.val % 2 * 512 + n.val = 512 * (t.val % 2) + n.val; omega

theorem iblk1_at (t : Fin cfg0.N) (i : Fin 2048) (n : Fin 128) :
    iblk m c 1 t (ix3 0 i n) = m ((c : Thread nD τ).loc main_arg1) (ix3 (bt t) i ⟨128 * (t.val % 2) + n.val, by omega⟩) := by
  show m ((c : Thread nD τ).loc main_arg1) ((win0_1.rect t).emb (ix3 0 i n)) = _
  obtain ⟨e0, e1, e2⟩ := index1 t
  refine congrArg (m ((c : Thread nD τ).loc main_arg1)) ?_
  funext a; apply Fin.ext; fin_cases a
  · refine (win0_1.rect_emb_val t (ix3 0 i n) 0).trans ?_
    rw [e0]; show t.val / 2 * 1 + 0 = t.val / 2; omega
  · refine (win0_1.rect_emb_val t (ix3 0 i n) 1).trans ?_
    rw [e1]; show 0 * 2048 + i.val = i.val; omega
  · refine (win0_1.rect_emb_val t (ix3 0 i n) 2).trans ?_
    rw [e2]; show t.val % 2 * 128 + n.val = 128 * (t.val % 2) + n.val; omega

theorem iblk2_at (t : Fin cfg0.N) (i : Fin 2048) (n : Fin 128) :
    iblk m c 2 t (ix3 0 i n) = m ((c : Thread nD τ).loc main_arg2) (ix3 (bt t) i ⟨128 * (t.val % 2) + n.val, by omega⟩) := by
  show m ((c : Thread nD τ).loc main_arg2) ((win0_2.rect t).emb (ix3 0 i n)) = _
  obtain ⟨e0, e1, e2⟩ := index2 t
  refine congrArg (m ((c : Thread nD τ).loc main_arg2)) ?_
  funext a; apply Fin.ext; fin_cases a
  · refine (win0_2.rect_emb_val t (ix3 0 i n) 0).trans ?_
    rw [e0]; show t.val / 2 * 1 + 0 = t.val / 2; omega
  · refine (win0_2.rect_emb_val t (ix3 0 i n) 1).trans ?_
    rw [e1]; show 0 * 2048 + i.val = i.val; omega
  · refine (win0_2.rect_emb_val t (ix3 0 i n) 2).trans ?_
    rw [e2]; show t.val % 2 * 128 + n.val = 128 * (t.val % 2) + n.val; omega

section Steps

variable {fq : Fin 9 → Fin 2048 → Fin 1024 → ℝ} {fk fv : Fin 9 → Fin 2048 → Fin 256 → ℝ}
  (hq : ∀ b i n, m ((c : Thread nD τ).loc main_arg0) (ix3 b i n) = ((fq b i n : ℝ) : EReal))
  (hk : ∀ b i n, m ((c : Thread nD τ).loc main_arg1) (ix3 b i n) = ((fk b i n : ℝ) : EReal))
  (hv : ∀ b i n, m ((c : Thread nD τ).loc main_arg2) (ix3 b i n) = ((fv b i n : ℝ) : EReal))
  (oq : ∀ b h, OkBlock (blkQ fq b h)) (ok : ∀ b g, OkBlock (blkK fk b g)) (ov : ∀ b g, OkBlock (blkK fv b g))

/-- The queries of head `h` of a step. -/
def qOf (fq : Fin 9 → Fin 2048 → Fin 1024 → ℝ) (t : Fin cfg0.N) (h : ℕ) : Fin 2048 → Fin 128 → ℝ :=
  blkQ fq (bt t) (hd (gt t) ⟨h % 4, Nat.mod_lt _ (by norm_num)⟩)

include hq in
theorem qHolds (t : Fin cfg0.N) (h : ℕ) : Holds (ldQ (ms0_0 t) (hs0_0 t) (iblk m c 0 t) h) (qOf fq t h) := fun i d => by
  refine (ldQ_apply (ms0_0 t) (hs0_0 t) (iblk m c 0 t) h i d).trans ((iblk0_at m c t i _).trans ((hq _ _ _).trans ?_))
  refine congrArg (fun n => ((fq (bt t) i n : ℝ) : EReal)) (Fin.ext ?_)
  show 512 * (t.val % 2) + (128 * (h % 4) + d.val) = 128 * (4 * (t.val % 2) + h % 4) + d.val
  omega

include hk in
theorem kHolds (t : Fin cfg0.N) : Holds (ldK (ms0_1 t) (hs0_1 t) (iblk m c 1 t)) (blkK fk (bt t) (gt t)) := fun i d =>
  (ldK_apply (ms0_1 t) (hs0_1 t) (iblk m c 1 t) i d).trans ((iblk1_at m c t i d).trans (hk _ _ _))

include hv in
theorem vHolds (t : Fin cfg0.N) : Holds (ldK (ms0_2 t) (hs0_2 t) (iblk m c 2 t)) (blkK fv (bt t) (gt t)) := fun i d =>
  (ldK_apply (ms0_2 t) (hs0_2 t) (iblk m c 2 t) i d).trans ((iblk2_at m c t i d).trans (hv _ _ _))

include hq hk hv oq ok ov in
theorem out_step (t : Fin cfg0.N) (y : S1x2048x512.Idx) : (outsAt0 m c t.val t.isLt).1 y
    = heads (fun h i d => attn (qOf fq t h) (blkK fk (bt t) (gt t)) (blkK fv (bt t) (gt t)) i d) y := by
  by_cases h0 : t.val % 18 = 0
  · rw [outsAt0_A m c t h0]
    dsimp only
    unfold out0_A_3
    rw [View.read_writes_junk_eq_canon]
    refine View.canon_apply_of_pieces (Val := Elt Ideal) (heads fun h i d => attn (qOf fq t h) (blkK fk (bt t) (gt t)) (blkK fv (bt t) (gt t)) i d) _ ?_ y
      (cover0_A_3 c _ _ _ _ _ _ _ _ _ _ _ _ _ _ _ _ _ _ _ _ _ _ _ _ _ _ _ _ _ _ _ y)
    exact outs_at _ _ _ _ (qHolds m c hq t) (kHolds m c hk t) (vHolds m c hv t) (fun h => oq _ _) (ok _ _) (ov _ _)
      (runA_outs c _ _ _ _ _ _ _ _ _ _ _ _ _ _ _ _ _ _ _ _ _ _ _ _ _ _ _ _ _ _ _) le_rfl
  · rw [outsAt0_B m c t h0]
    dsimp only
    unfold out0_B_3
    rw [View.read_writes_junk_eq_canon]
    refine View.canon_apply_of_pieces (Val := Elt Ideal) (heads fun h i d => attn (qOf fq t h) (blkK fk (bt t) (gt t)) (blkK fv (bt t) (gt t)) i d) _ ?_ y
      (cover0_B_3 c _ _ _ _ _ _ _ _ _ _ _ _ _ _ _ _ _ _ _ _ _ _ _ _ _ _ _ _ _ _ _ _ _ _ y)
    exact outs_at _ _ _ _ (qHolds m c hq t) (kHolds m c hk t) (vHolds m c hv t) (fun h => oq _ _) (ok _ _) (ov _ _)
      (runB_outs c _ _ _ _ _ _ _ _ _ _ _ _ _ _ _ _ _ _ _ _ _ _ _ _ _ _ _ _ _ _ _ _ _ _) le_rfl

include hq oq in
theorem qc_step (t : Fin cfg0.N) (y : S1x2048x512.Idx) : (outsAt0 m c t.val t.isLt).2.1 y
    = heads (fun h i d => cod (qOf fq t h) i d) y := by
  by_cases h0 : t.val % 18 = 0
  · rw [outsAt0_A m c t h0]
    dsimp only
    unfold out0_A_4
    rw [View.read_writes_junk_eq_canon]
    refine View.canon_apply_of_pieces (Val := Elt Ideal) (heads fun h i d => cod (qOf fq t h) i d) _ ?_ y
      (cover0_A_4 c _ _ _ _ _ _ _ _ _ _ _ _ _ _ _ _ _ _ _ _ _ _ _ _ _ _ _ _ _ _ _ y)
    rw [runA_q]
    exact qPieces_at (qHolds m c hq t) (fun h => oq _ _) (by norm_num)
  · rw [outsAt0_B m c t h0]
    dsimp only
    unfold out0_B_4
    rw [View.read_writes_junk_eq_canon]
    refine View.canon_apply_of_pieces (Val := Elt Ideal) (heads fun h i d => cod (qOf fq t h) i d) _ ?_ y
      (cover0_B_4 c _ _ _ _ _ _ _ _ _ _ _ _ _ _ _ _ _ _ _ _ _ _ _ _ _ _ _ _ _ _ _ _ _ _ y)
    rw [runB_q]
    exact qPieces_at (qHolds m c hq t) (fun h => oq _ _) (by norm_num)

include hk ok in
theorem kc_step (t : Fin cfg0.N) (y : Fin 2048) (d : Fin 128) : (outsAt0 m c t.val t.isLt).2.2.1 (ix4 0 0 y d)
    = ((cod (blkK fk (bt t) (gt t)) y d : ℝ) : EReal) := by
  by_cases h0 : t.val % 18 = 0
  · rw [outsAt0_A m c t h0]
    dsimp only
    unfold out0_A_5
    rw [View.read_writes_junk_eq_canon]
    rw [runA_k]
    exact cPieces_at (kHolds m c hk t) (ok _ _) y d
  · rw [outsAt0_B m c t h0]
    dsimp only
    unfold out0_B_5
    rw [View.read_writes_junk_eq_canon]
    rw [runB_k]
    exact cPieces_at (kHolds m c hk t) (ok _ _) y d

include hv ov in
theorem vc_step (t : Fin cfg0.N) (y : Fin 2048) (d : Fin 128) : (outsAt0 m c t.val t.isLt).2.2.2.1 (ix4 0 0 y d)
    = ((cod (blkK fv (bt t) (gt t)) y d : ℝ) : EReal) := by
  by_cases h0 : t.val % 18 = 0
  · rw [outsAt0_A m c t h0]
    dsimp only
    unfold out0_A_6
    rw [View.read_writes_junk_eq_canon]
    rw [runA_v]
    exact cPieces_at (vHolds m c hv t) (ov _ _) y d
  · rw [outsAt0_B m c t h0]
    dsimp only
    unfold out0_B_6
    rw [View.read_writes_junk_eq_canon]
    rw [runB_v]
    exact cPieces_at (vHolds m c hv t) (ov _ _) y d

theorem coords1_lt (t : Fin cfg0.N) : (grid0.coords t 1).val < 2 := (grid0.coords t 1).isLt
theorem coords0_lt (t : Fin cfg0.N) : (grid0.coords t 0).val < 9 := (grid0.coords t 0).isLt

include hq oq in
theorem qs_A (t : Fin cfg0.N) (h0 : t.val % 18 = 0) (x : Fin 8) (y : Fin 9) : (outsAt0 m c t.val t.isLt).2.2.2.2.1 (ix2 x y)
    = if y.val = t.val / 2 ∧ 4 * (t.val % 2) ≤ x.val ∧ x.val ≤ 4 * (t.val % 2) + 3
      then ((scl (qOf fq t (x.val - 4 * (t.val % 2))) : ℝ) : EReal) else 0 := by
  rw [outsAt0_A m c t h0]
  dsimp only
  unfold out0_A_7
  rw [View.read_writes_junk_eq_canon, runA_qs]
  refine (qs_at (ms0_7 t) (coords1_lt t) (coords0_lt t)
      (fun h j => scaleOf_apply (qHolds m c hq t h) (oq _ _) j) zeroQ ((ms0_7 t).view.readCov zeroQ allQ.toLoadRect) (by norm_num) x y).trans ?_
  rw [coords0, coords1]
  refine if_congr Iff.rfl rfl ?_
  exact (congrFun (readCov_allQ _ _) _).trans (canon_zeroQ _)

include hq oq in
theorem qs_B (t : Fin cfg0.N) (h0 : ¬t.val % 18 = 0) (x : Fin 8) (y : Fin 9) : (outsAt0 m c t.val t.isLt).2.2.2.2.1 (ix2 x y)
    = if y.val = t.val / 2 ∧ 4 * (t.val % 2) ≤ x.val ∧ x.val ≤ 4 * (t.val % 2) + 3
      then ((scl (qOf fq t (x.val - 4 * (t.val % 2))) : ℝ) : EReal) else (outsAt0 m c (t.val - 1) (Nat.lt_of_le_of_lt (Nat.sub_le _ _) t.isLt)).2.2.2.2.1 (ix2 x y) := by
  rw [outsAt0_B m c t h0]
  dsimp only
  unfold out0_B_7
  rw [View.read_writes_junk_eq_canon, runB_qs]
  refine (qs_at (ms0_7 t) (coords1_lt t) (coords0_lt t)
      (fun h j => scaleOf_apply (qHolds m c hq t h) (oq _ _) j) [] (View.readAt (Elt Ideal) (ms0_7 t).view allQ.toLoadRect ((hs0_7 t).unread (outsAt0 m c (t.val - 1) (Nat.lt_of_le_of_lt (Nat.sub_le _ _) t.isLt)).2.2.2.2.1)) (by norm_num) x y).trans ?_
  rw [coords0, coords1]
  refine if_congr Iff.rfl rfl ?_
  exact congrFun (readAt_allQ _ _ _) _

include hk ok in
theorem ks_A (t : Fin cfg0.N) (h0 : t.val % 18 = 0) (x : Fin 2) (y : Fin 9) : (outsAt0 m c t.val t.isLt).2.2.2.2.2.1 (ix2 x y)
    = if x.val = t.val % 2 ∧ y.val = t.val / 2 then ((scl (blkK fk (bt t) (gt t)) : ℝ) : EReal) else 0 := by
  rw [outsAt0_A m c t h0]
  dsimp only
  unfold out0_A_8
  rw [View.read_writes_junk_eq_canon, runA_ks]
  refine (congrFun (canon_allK _ _) _).trans ((putK_apply (coords1_lt t) (coords0_lt t)
      (fun j => scaleOf_apply (kHolds m c hk t) (ok _ _) j) ((ms0_8 t).view.readCov zeroK allK.toLoadRect) x y).trans ?_)
  rw [coords0, coords1]
  refine if_congr Iff.rfl rfl ?_
  exact (congrFun (readCov_allK _ _) _).trans (canon_zeroK _)

include hk ok in
theorem ks_B (t : Fin cfg0.N) (h0 : ¬t.val % 18 = 0) (x : Fin 2) (y : Fin 9) : (outsAt0 m c t.val t.isLt).2.2.2.2.2.1 (ix2 x y)
    = if x.val = t.val % 2 ∧ y.val = t.val / 2 then ((scl (blkK fk (bt t) (gt t)) : ℝ) : EReal) else (outsAt0 m c (t.val - 1) (Nat.lt_of_le_of_lt (Nat.sub_le _ _) t.isLt)).2.2.2.2.2.1 (ix2 x y) := by
  rw [outsAt0_B m c t h0]
  dsimp only
  unfold out0_B_8
  rw [View.read_writes_junk_eq_canon, runB_ks]
  refine (congrFun (canon_allK _ _) _).trans ((putK_apply (coords1_lt t) (coords0_lt t)
      (fun j => scaleOf_apply (kHolds m c hk t) (ok _ _) j) (View.readAt (Elt Ideal) (ms0_8 t).view allK.toLoadRect ((hs0_8 t).unread (outsAt0 m c (t.val - 1) (Nat.lt_of_le_of_lt (Nat.sub_le _ _) t.isLt)).2.2.2.2.2.1)) x y).trans ?_)
  rw [coords0, coords1]
  refine if_congr Iff.rfl rfl ?_
  exact congrFun (readAt_allK _ _ _) _

include hv ov in
theorem vs_A (t : Fin cfg0.N) (h0 : t.val % 18 = 0) (x : Fin 2) (y : Fin 9) : (outsAt0 m c t.val t.isLt).2.2.2.2.2.2 (ix2 x y)
    = if x.val = t.val % 2 ∧ y.val = t.val / 2 then ((scl (blkK fv (bt t) (gt t)) : ℝ) : EReal) else 0 := by
  rw [outsAt0_A m c t h0]
  dsimp only
  unfold out0_A_9
  rw [View.read_writes_junk_eq_canon, runA_vs]
  refine (congrFun (canon_allK _ _) _).trans ((putK_apply (coords1_lt t) (coords0_lt t)
      (fun j => scaleOf_apply (vHolds m c hv t) (ov _ _) j) ((ms0_9 t).view.readCov zeroK allK.toLoadRect) x y).trans ?_)
  rw [coords0, coords1]
  refine if_congr Iff.rfl rfl ?_
  exact (congrFun (readCov_allK _ _) _).trans (canon_zeroK _)

include hv ov in
theorem vs_B (t : Fin cfg0.N) (h0 : ¬t.val % 18 = 0) (x : Fin 2) (y : Fin 9) : (outsAt0 m c t.val t.isLt).2.2.2.2.2.2 (ix2 x y)
    = if x.val = t.val % 2 ∧ y.val = t.val / 2 then ((scl (blkK fv (bt t) (gt t)) : ℝ) : EReal) else (outsAt0 m c (t.val - 1) (Nat.lt_of_le_of_lt (Nat.sub_le _ _) t.isLt)).2.2.2.2.2.2 (ix2 x y) := by
  rw [outsAt0_B m c t h0]
  dsimp only
  unfold out0_B_9
  rw [View.read_writes_junk_eq_canon, runB_vs]
  refine (congrFun (canon_allK _ _) _).trans ((putK_apply (coords1_lt t) (coords0_lt t)
      (fun j => scaleOf_apply (vHolds m c hv t) (ov _ _) j) (View.readAt (Elt Ideal) (ms0_9 t).view allK.toLoadRect ((hs0_9 t).unread (outsAt0 m c (t.val - 1) (Nat.lt_of_le_of_lt (Nat.sub_le _ _) t.isLt)).2.2.2.2.2.2)) x y).trans ?_)
  rw [coords0, coords1]
  refine if_congr Iff.rfl rfl ?_
  exact congrFun (readAt_allK _ _ _) _

include hq oq in
/-- After step `n` the scales of the groups up to it are there, the others are still zero. -/
theorem qs_step (n : ℕ) (hn : n < cfg0.N) (x : Fin 8) (y : Fin 9) : (outsAt0 m c n hn).2.2.2.2.1 (ix2 x y)
    = if 2 * y.val + x.val / 4 ≤ n then ((scl (blkQ fq y x) : ℝ) : EReal) else 0 := by
  have key : ∀ t : Fin cfg0.N, y.val = t.val / 2 ∧ 4 * (t.val % 2) ≤ x.val ∧ x.val ≤ 4 * (t.val % 2) + 3 →
      qOf fq t (x.val - 4 * (t.val % 2)) = blkQ fq y x := fun t h => by
    unfold qOf
    rw [show bt t = y from Fin.ext h.1.symm]
    refine congrArg (blkQ fq y) (Fin.ext ?_)
    show 4 * (t.val % 2) + (x.val - 4 * (t.val % 2)) % 4 = x.val
    omega
  induction n with
  | zero =>
    refine (qs_A m c hq oq ⟨0, hn⟩ rfl x y).trans ?_
    by_cases h : y.val = 0 / 2 ∧ 4 * (0 % 2) ≤ x.val ∧ x.val ≤ 4 * (0 % 2) + 3
    · rw [if_pos h, if_pos (by omega), key ⟨0, hn⟩ h]
    · rw [if_neg h, if_neg (by omega)]
  | succ n ih =>
    have hN := lt18 ⟨n + 1, hn⟩
    refine (qs_B m c hq oq ⟨n + 1, hn⟩ (by show ¬(n + 1) % 18 = 0; dsimp only at hN; omega) x y).trans ?_
    by_cases h : y.val = (n + 1) / 2 ∧ 4 * ((n + 1) % 2) ≤ x.val ∧ x.val ≤ 4 * ((n + 1) % 2) + 3
    · rw [if_pos h, if_pos (by omega), key ⟨n + 1, hn⟩ h]
    · rw [if_neg h]
      refine (ih (by omega)).trans (if_congr ?_ rfl rfl)
      omega

include hk ok in
theorem ks_step (n : ℕ) (hn : n < cfg0.N) (x : Fin 2) (y : Fin 9) : (outsAt0 m c n hn).2.2.2.2.2.1 (ix2 x y)
    = if 2 * y.val + x.val ≤ n then ((scl (blkK fk y x) : ℝ) : EReal) else 0 := by
  have key : ∀ t : Fin cfg0.N, x.val = t.val % 2 ∧ y.val = t.val / 2 → blkK fk (bt t) (gt t) = blkK fk y x := fun t h => by
    rw [show bt t = y from Fin.ext h.2.symm, show gt t = x from Fin.ext h.1.symm]
  induction n with
  | zero =>
    refine (ks_A m c hk ok ⟨0, hn⟩ rfl x y).trans ?_
    by_cases h : x.val = 0 % 2 ∧ y.val = 0 / 2
    · rw [if_pos h, if_pos (by omega), key ⟨0, hn⟩ h]
    · rw [if_neg h, if_neg (by omega)]
  | succ n ih =>
    have hN := lt18 ⟨n + 1, hn⟩
    refine (ks_B m c hk ok ⟨n + 1, hn⟩ (by show ¬(n + 1) % 18 = 0; dsimp only at hN; omega) x y).trans ?_
    by_cases h : x.val = (n + 1) % 2 ∧ y.val = (n + 1) / 2
    · rw [if_pos h, if_pos (by omega), key ⟨n + 1, hn⟩ h]
    · rw [if_neg h]
      refine (ih (by omega)).trans (if_congr ?_ rfl rfl)
      omega

include hv ov in
theorem vs_step (n : ℕ) (hn : n < cfg0.N) (x : Fin 2) (y : Fin 9) : (outsAt0 m c n hn).2.2.2.2.2.2 (ix2 x y)
    = if 2 * y.val + x.val ≤ n then ((scl (blkK fv y x) : ℝ) : EReal) else 0 := by
  have key : ∀ t : Fin cfg0.N, x.val = t.val % 2 ∧ y.val = t.val / 2 → blkK fv (bt t) (gt t) = blkK fv y x := fun t h => by
    rw [show bt t = y from Fin.ext h.2.symm, show gt t = x from Fin.ext h.1.symm]
  induction n with
  | zero =>
    refine (vs_A m c hv ov ⟨0, hn⟩ rfl x y).trans ?_
    by_cases h : x.val = 0 % 2 ∧ y.val = 0 / 2
    · rw [if_pos h, if_pos (by omega), key ⟨0, hn⟩ h]
    · rw [if_neg h, if_neg (by omega)]
  | succ n ih =>
    have hN := lt18 ⟨n + 1, hn⟩
    refine (vs_B m c hv ov ⟨n + 1, hn⟩ (by show ¬(n + 1) % 18 = 0; dsimp only at hN; omega) x y).trans ?_
    by_cases h : x.val = (n + 1) % 2 ∧ y.val = (n + 1) / 2
    · rw [if_pos h, if_pos (by omega), key ⟨n + 1, hn⟩ h]
    · rw [if_neg h]
      refine (ih (by omega)).trans (if_congr ?_ rfl rfl)
      omega

end Steps

end Cert.KernelIdeal.Tile

end
-- ==== Proof.Arrays.lean ====
/-
  The kernel's seven results at an index, over the reals: each block written back is its step's, and the scales' arrays,
  written back once, are those of the last step.
-/
module

public import proofs.«01_k».proof.Proof.Steps

@[expose] public section

noncomputable section

namespace Cert.KernelIdeal.Tile

open Cert.Quant Idealize.ShloMosaic Idealize.ShloMosaic.TcCoe Cert.KernelIdeal Cert.KernelIdeal.Gen Cert.KernelIdeal.Facts Idealize.SL.Sem
  Cert.KernelIdeal.Value

variable (m : (ℓ : Loc nD τ sig) → Buf (Elt Ideal) ℓ) (c : Dev nD)

/-- The step that works on batch `b` and group `g`. -/
def stepOf (b : Fin 9) (g : Fin 2) : Fin cfg0.N := ⟨2 * b.val + g.val, by show 2 * b.val + g.val < 18; omega⟩
theorem bt_stepOf (b : Fin 9) (g : Fin 2) : bt (stepOf b g) = b := Fin.ext (by show (2 * b.val + g.val) / 2 = b.val; omega)
theorem gt_stepOf (b : Fin 9) (g : Fin 2) : gt (stepOf b g) = g := Fin.ext (by show (2 * b.val + g.val) % 2 = g.val; omega)

/-- The last step. -/
def lastStep : Fin cfg0.N := ⟨17, by show 17 < 18; norm_num⟩

theorem index3 : ∀ t : Fin cfg0.N, win0_3.index t 0 = t.val / 2 ∧ win0_3.index t 1 = 0 ∧ win0_3.index t 2 = t.val % 2 :=
  (by decide +kernel : ∀ t : Fin grid0.N, win0_3.index t 0 = t.val / 2 ∧ win0_3.index t 1 = 0 ∧ win0_3.index t 2 = t.val % 2)
theorem index4 : ∀ t : Fin cfg0.N, win0_4.index t 0 = t.val / 2 ∧ win0_4.index t 1 = 0 ∧ win0_4.index t 2 = t.val % 2 :=
  (by decide +kernel : ∀ t : Fin grid0.N, win0_4.index t 0 = t.val / 2 ∧ win0_4.index t 1 = 0 ∧ win0_4.index t 2 = t.val % 2)
theorem index5 : ∀ t : Fin cfg0.N, win0_5.index t 0 = t.val / 2 ∧ win0_5.index t 1 = t.val % 2 ∧ win0_5.index t 2 = 0 ∧ win0_5.index t 3 = 0 :=
  (by decide +kernel : ∀ t : Fin grid0.N, win0_5.index t 0 = t.val / 2 ∧ win0_5.index t 1 = t.val % 2 ∧ win0_5.index t 2 = 0 ∧ win0_5.index t 3 = 0)
theorem index6 : ∀ t : Fin cfg0.N, win0_6.index t 0 = t.val / 2 ∧ win0_6.index t 1 = t.val % 2 ∧ win0_6.index t 2 = 0 ∧ win0_6.index t 3 = 0 :=
  (by decide +kernel : ∀ t : Fin grid0.N, win0_6.index t 0 = t.val / 2 ∧ win0_6.index t 1 = t.val % 2 ∧ win0_6.index t 2 = 0 ∧ win0_6.index t 3 = 0)

theorem emb3 (b : Fin 9) (g : Fin 2) (i : Fin 2048) (r : Fin 4) (d : Fin 128) :
    (win0_3.rect (stepOf b g)).emb (ix3 0 i ⟨128 * r.val + d.val, by omega⟩) = ix3 b i (colQ (hd g r) d) := by
  obtain ⟨e0, e1, e2⟩ := index3 (stepOf b g)
  funext a; apply Fin.ext; fin_cases a
  · refine (win0_3.rect_emb_val (stepOf b g) (ix3 0 i _) 0).trans ?_
    rw [e0]; show (2 * b.val + g.val) / 2 * 1 + 0 = b.val; omega
  · refine (win0_3.rect_emb_val (stepOf b g) (ix3 0 i _) 1).trans ?_
    rw [e1]; show 0 * 2048 + i.val = i.val; omega
  · refine (win0_3.rect_emb_val (stepOf b g) (ix3 0 i _) 2).trans ?_
    rw [e2]; show (2 * b.val + g.val) % 2 * 512 + (128 * r.val + d.val) = 128 * (4 * g.val + r.val) + d.val; omega

theorem emb4 (b : Fin 9) (g : Fin 2) (i : Fin 2048) (r : Fin 4) (d : Fin 128) :
    (win0_4.rect (stepOf b g)).emb (ix3 0 i ⟨128 * r.val + d.val, by omega⟩) = ix3 b i (colQ (hd g r) d) := by
  obtain ⟨e0, e1, e2⟩ := index4 (stepOf b g)
  funext a; apply Fin.ext; fin_cases a
  · refine (win0_4.rect_emb_val (stepOf b g) (ix3 0 i _) 0).trans ?_
    rw [e0]; show (2 * b.val + g.val) / 2 * 1 + 0 = b.val; omega
  · refine (win0_4.rect_emb_val (stepOf b g) (ix3 0 i _) 1).trans ?_
    rw [e1]; show 0 * 2048 + i.val = i.val; omega
  · refine (win0_4.rect_emb_val (stepOf b g) (ix3 0 i _) 2).trans ?_
    rw [e2]; show (2 * b.val + g.val) % 2 * 512 + (128 * r.val + d.val) = 128 * (4 * g.val + r.val) + d.val; omega

theorem emb5 (b : Fin 9) (g : Fin 2) (i : Fin 2048) (d : Fin 128) :
    (win0_5.rect (stepOf b g)).emb (ix4 0 0 i d) = ix4 b g i d := by
  obtain ⟨e0, e1, e2, e3⟩ := index5 (stepOf b g)
  funext a; apply Fin.ext; fin_cases a
  · refine (win0_5.rect_emb_val (stepOf b g) (ix4 0 0 i d) 0).trans ?_
    rw [e0]; show (2 * b.val + g.val) / 2 * 1 + 0 = b.val; omega
  · refine (win0_5.rect_emb_val (stepOf b g) (ix4 0 0 i d) 1).trans ?_
    rw [e1]; show (2 * b.val + g.val) % 2 * 1 + 0 = g.val; omega
  · refine (win0_5.rect_emb_val (stepOf b g) (ix4 0 0 i d) 2).trans ?_
    rw [e2]; show 0 * 2048 + i.val = i.val; omega
  · refine (win0_5.rect_emb_val (stepOf b g) (ix4 0 0 i d) 3).trans ?_
    rw [e3]; show 0 * 128 + d.val = d.val; omega

theorem emb6 (b : Fin 9) (g : Fin 2) (i : Fin 2048) (d : Fin 128) :
    (win0_6.rect (stepOf b g)).emb (ix4 0 0 i d) = ix4 b g i d := by
  obtain ⟨e0, e1, e2, e3⟩ := index6 (stepOf b g)
  funext a; apply Fin.ext; fin_cases a
  · refine (win0_6.rect_emb_val (stepOf b g) (ix4 0 0 i d) 0).trans ?_
    rw [e0]; show (2 * b.val + g.val) / 2 * 1 + 0 = b.val; omega
  · refine (win0_6.rect_emb_val (stepOf b g) (ix4 0 0 i d) 1).trans ?_
    rw [e1]; show (2 * b.val + g.val) % 2 * 1 + 0 = g.val; omega
  · refine (win0_6.rect_emb_val (stepOf b g) (ix4 0 0 i d) 2).trans ?_
    rw [e2]; show 0 * 2048 + i.val = i.val; omega
  · refine (win0_6.rect_emb_val (stepOf b g) (ix4 0 0 i d) 3).trans ?_
    rw [e3]; show 0 * 128 + d.val = d.val; omega

/-- The array of window 3, at the place of a step's block, is what the step left there. -/
theorem arr3 (t : Fin cfg0.N) (y : (win0_3.rect t).shape.Idx) :
    (dats m 0 c).arrAt 3 cfg0.N ((win0_3.rect t).emb y) = (outsAt0 m c t.val t.isLt).1 y :=
  (congrFun (blocks3 m c t (flush0_3 t)) y).trans (congrFun (flushed3 m c t) y)

/-- The array of window 4, at the place of a step's block, is what the step left there. -/
theorem arr4 (t : Fin cfg0.N) (y : (win0_4.rect t).shape.Idx) :
    (dats m 0 c).arrAt 4 cfg0.N ((win0_4.rect t).emb y) = (outsAt0 m c t.val t.isLt).2.1 y :=
  (congrFun (blocks4 m c t (flush0_4 t)) y).trans (congrFun (flushed4 m c t) y)

/-- The array of window 5, at the place of a step's block, is what the step left there. -/
theorem arr5 (t : Fin cfg0.N) (y : (win0_5.rect t).shape.Idx) :
    (dats m 0 c).arrAt 5 cfg0.N ((win0_5.rect t).emb y) = (outsAt0 m c t.val t.isLt).2.2.1 y :=
  (congrFun (blocks5 m c t (flush0_5 t)) y).trans (congrFun (flushed5 m c t) y)

/-- The array of window 6, at the place of a step's block, is what the step left there. -/
theorem arr6 (t : Fin cfg0.N) (y : (win0_6.rect t).shape.Idx) :
    (dats m 0 c).arrAt 6 cfg0.N ((win0_6.rect t).emb y) = (outsAt0 m c t.val t.isLt).2.2.2.1 y :=
  (congrFun (blocks6 m c t (flush0_6 t)) y).trans (congrFun (flushed6 m c t) y)

theorem emb7 (x : Fin 8) (y : Fin 9) : (win0_7.rect lastStep).emb (ix2 x y) = ix2 x y := by
  funext a; apply Fin.ext; fin_cases a
  · refine (win0_7.rect_emb_val lastStep (ix2 x y) 0).trans ?_
    show 0 * 8 + x.val = x.val; omega
  · refine (win0_7.rect_emb_val lastStep (ix2 x y) 1).trans ?_
    show 0 * 9 + y.val = y.val; omega

/-- Only the last step writes window 7 back. -/
theorem arr7 (y : (win0_7.rect lastStep).shape.Idx) :
    (dats m 0 c).arrAt 7 cfg0.N ((win0_7.rect lastStep).emb y) = (outsAt0 m c lastStep.val lastStep.isLt).2.2.2.2.1 y := by
  have hd : ∀ t t' : Fin cfg0.N, (cfg0.win 7).flush t = true → (cfg0.win 7).flush t' = true → t ≠ t' →
      Disjoint ((cfg0.win 7).blk t).view.set ((cfg0.win 7).blk t').view.set := fun t t' h h' hne => by
    have h1 := (flush0_7 t).mp h
    have h2 := (flush0_7 t').mp h'
    have := lt18 t
    have := lt18 t'
    exact absurd (Fin.ext (by omega)) hne
  exact (congrFun ((dats m 0 c).read_blk_arrAt_eq_flushed 7 hd cfg0.N lastStep lastStep.isLt ((flush0_7 lastStep).mpr rfl)) y).trans
    (congrFun (flushed7 m c lastStep) y)

theorem emb8 (x : Fin 2) (y : Fin 9) : (win0_8.rect lastStep).emb (ix2 x y) = ix2 x y := by
  funext a; apply Fin.ext; fin_cases a
  · refine (win0_8.rect_emb_val lastStep (ix2 x y) 0).trans ?_
    show 0 * 2 + x.val = x.val; omega
  · refine (win0_8.rect_emb_val lastStep (ix2 x y) 1).trans ?_
    show 0 * 9 + y.val = y.val; omega

/-- Only the last step writes window 8 back. -/
theorem arr8 (y : (win0_8.rect lastStep).shape.Idx) :
    (dats m 0 c).arrAt 8 cfg0.N ((win0_8.rect lastStep).emb y) = (outsAt0 m c lastStep.val lastStep.isLt).2.2.2.2.2.1 y := by
  have hd : ∀ t t' : Fin cfg0.N, (cfg0.win 8).flush t = true → (cfg0.win 8).flush t' = true → t ≠ t' →
      Disjoint ((cfg0.win 8).blk t).view.set ((cfg0.win 8).blk t').view.set := fun t t' h h' hne => by
    have h1 := (flush0_8 t).mp h
    have h2 := (flush0_8 t').mp h'
    have := lt18 t
    have := lt18 t'
    exact absurd (Fin.ext (by omega)) hne
  exact (congrFun ((dats m 0 c).read_blk_arrAt_eq_flushed 8 hd cfg0.N lastStep lastStep.isLt ((flush0_8 lastStep).mpr rfl)) y).trans
    (congrFun (flushed8 m c lastStep) y)

theorem emb9 (x : Fin 2) (y : Fin 9) : (win0_9.rect lastStep).emb (ix2 x y) = ix2 x y := by
  funext a; apply Fin.ext; fin_cases a
  · refine (win0_9.rect_emb_val lastStep (ix2 x y) 0).trans ?_
    show 0 * 2 + x.val = x.val; omega
  · refine (win0_9.rect_emb_val lastStep (ix2 x y) 1).trans ?_
    show 0 * 9 + y.val = y.val; omega

/-- Only the last step writes window 9 back. -/
theorem arr9 (y : (win0_9.rect lastStep).shape.Idx) :
    (dats m 0 c).arrAt 9 cfg0.N ((win0_9.rect lastStep).emb y) = (outsAt0 m c lastStep.val lastStep.isLt).2.2.2.2.2.2 y := by
  have hd : ∀ t t' : Fin cfg0.N, (cfg0.win 9).flush t = true → (cfg0.win 9).flush t' = true → t ≠ t' →
      Disjoint ((cfg0.win 9).blk t).view.set ((cfg0.win 9).blk t').view.set := fun t t' h h' hne => by
    have h1 := (flush0_9 t).mp h
    have h2 := (flush0_9 t').mp h'
    have := lt18 t
    have := lt18 t'
    exact absurd (Fin.ext (by omega)) hne
  exact (congrFun ((dats m 0 c).read_blk_arrAt_eq_flushed 9 hd cfg0.N lastStep lastStep.isLt ((flush0_9 lastStep).mpr rfl)) y).trans
    (congrFun (flushed9 m c lastStep) y)

section Results

variable {m c} {fq : Fin 9 → Fin 2048 → Fin 1024 → ℝ} {fk fv : Fin 9 → Fin 2048 → Fin 256 → ℝ}
  (hq : ∀ b i n, m ((c : Thread nD τ).loc main_arg0) (ix3 b i n) = ((fq b i n : ℝ) : EReal))
  (hk : ∀ b i n, m ((c : Thread nD τ).loc main_arg1) (ix3 b i n) = ((fk b i n : ℝ) : EReal))
  (hv : ∀ b i n, m ((c : Thread nD τ).loc main_arg2) (ix3 b i n) = ((fv b i n : ℝ) : EReal))
  (oq : ∀ b h, OkBlock (blkQ fq b h)) (ok : ∀ b g, OkBlock (blkK fk b g)) (ov : ∀ b g, OkBlock (blkK fv b g))

/-- The queries of the `r`-th head of a step's group. -/
theorem qOf_stepOf (fq : Fin 9 → Fin 2048 → Fin 1024 → ℝ) (b : Fin 9) (g : Fin 2) (r : Fin 4) : qOf fq (stepOf b g) r.val = blkQ fq b (hd g r) := by
  unfold qOf
  rw [bt_stepOf, gt_stepOf, show (⟨r.val % 4, Nat.mod_lt _ (by norm_num)⟩ : Fin 4) = r from Fin.ext (by show r.val % 4 = r.val; omega)]

include hq hk hv oq ok ov in
theorem out_arr (b : Fin 9) (i : Fin 2048) (g : Fin 2) (r : Fin 4) (d : Fin 128) :
    (dats m 0 c).arrAt 3 cfg0.N (ix3 b i (colQ (hd g r) d)) = ((attn (blkQ fq b (hd g r)) (blkK fk b g) (blkK fv b g) i d : ℝ) : EReal) := by
  have h := (arr3 m c (stepOf b g) (ix3 0 i ⟨128 * r.val + d.val, by omega⟩)).trans
    ((out_step m c hq hk hv oq ok ov (stepOf b g) _).trans (heads_at _ _ r.val i d rfl rfl))
  rw [emb3, qOf_stepOf, bt_stepOf, gt_stepOf] at h
  exact h

include hq oq in
theorem qc_arr (b : Fin 9) (i : Fin 2048) (g : Fin 2) (r : Fin 4) (d : Fin 128) :
    (dats m 0 c).arrAt 4 cfg0.N (ix3 b i (colQ (hd g r) d)) = ((cod (blkQ fq b (hd g r)) i d : ℝ) : EReal) := by
  have h := (arr4 m c (stepOf b g) (ix3 0 i ⟨128 * r.val + d.val, by omega⟩)).trans
    ((qc_step m c hq oq (stepOf b g) _).trans (heads_at _ _ r.val i d rfl rfl))
  rw [emb4, qOf_stepOf] at h
  exact h

include hk ok in
theorem kc_arr (b : Fin 9) (g : Fin 2) (i : Fin 2048) (d : Fin 128) :
    (dats m 0 c).arrAt 5 cfg0.N (ix4 b g i d) = ((cod (blkK fk b g) i d : ℝ) : EReal) := by
  have h := (arr5 m c (stepOf b g) (ix4 0 0 i d)).trans (kc_step m c hk ok (stepOf b g) i d)
  rw [emb5, bt_stepOf, gt_stepOf] at h
  exact h

include hv ov in
theorem vc_arr (b : Fin 9) (g : Fin 2) (i : Fin 2048) (d : Fin 128) :
    (dats m 0 c).arrAt 6 cfg0.N (ix4 b g i d) = ((cod (blkK fv b g) i d : ℝ) : EReal) := by
  have h := (arr6 m c (stepOf b g) (ix4 0 0 i d)).trans (vc_step m c hv ov (stepOf b g) i d)
  rw [emb6, bt_stepOf, gt_stepOf] at h
  exact h

include hq oq in
theorem qs_arr (x : Fin 8) (y : Fin 9) : (dats m 0 c).arrAt 7 cfg0.N (ix2 x y) = ((scl (blkQ fq y x) : ℝ) : EReal) := by
  have h := (arr7 m c (ix2 x y)).trans ((qs_step m c hq oq _ lastStep.isLt x y).trans (if_pos (by show 2 * y.val + x.val / 4 ≤ 17; omega)))
  rw [emb7] at h
  exact h

include hk ok in
theorem ks_arr (x : Fin 2) (y : Fin 9) : (dats m 0 c).arrAt 8 cfg0.N (ix2 x y) = ((scl (blkK fk y x) : ℝ) : EReal) := by
  have h := (arr8 m c (ix2 x y)).trans ((ks_step m c hk ok _ lastStep.isLt x y).trans (if_pos (by show 2 * y.val + x.val ≤ 17; omega)))
  rw [emb8] at h
  exact h

include hv ov in
theorem vs_arr (x : Fin 2) (y : Fin 9) : (dats m 0 c).arrAt 9 cfg0.N (ix2 x y) = ((scl (blkK fv y x) : ℝ) : EReal) := by
  have h := (arr9 m c (ix2 x y)).trans ((vs_step m c hv ov _ lastStep.isLt x y).trans (if_pos (by show 2 * y.val + x.val ≤ 17; omega)))
  rw [emb9] at h
  exact h

end Results

end Cert.KernelIdeal.Tile

end
-- ==== Proof.Results.lean ====
/-
  The kernel's arrays are the reference's values, index by index.
-/
module

public import proofs.«01_k».proof.Proof.Arrays

@[expose] public section

noncomputable section

namespace Cert.Results

open Cert.Quant Idealize.ShloMosaic Idealize.ShloMosaic.TcCoe Cert.KernelIdeal Cert.KernelIdeal.Gen Cert.KernelIdeal.Tile Idealize.SL.Sem
  Cert.ReferenceIdeal.Read

variable {m : (ℓ : Loc nD τ sig) → Buf (Elt Ideal) ℓ} {c : Dev nD}
  {fq : Fin 9 → Fin 2048 → Fin 1024 → ℝ} {fk fv : Fin 9 → Fin 2048 → Fin 256 → ℝ}
  (hq : ∀ b i n, m ((c : Thread nD τ).loc main_arg0) (ix3 b i n) = ((fq b i n : ℝ) : EReal))
  (hk : ∀ b i n, m ((c : Thread nD τ).loc main_arg1) (ix3 b i n) = ((fk b i n : ℝ) : EReal))
  (hv : ∀ b i n, m ((c : Thread nD τ).loc main_arg2) (ix3 b i n) = ((fv b i n : ℝ) : EReal))
  (oq : ∀ b h, OkBlock (blkQ fq b h)) (ok : ∀ b g, OkBlock (blkK fk b g)) (ov : ∀ b g, OkBlock (blkK fv b g))

/-- Every column of the queries belongs to a head. -/
theorem col_eq (x : S9x2048x1024.Idx) : ∃ (b : Fin 9) (i : Fin 2048) (g : Fin 2) (r : Fin 4) (d : Fin 128), x = ix3 b i (colQ (hd g r) d) := by
  have h2 : (x 2).val < 1024 := (x 2).isLt
  refine ⟨x 0, x 1, ⟨(x 2).val / 512, by omega⟩, ⟨(x 2).val / 128 % 4, by omega⟩, ⟨(x 2).val % 128, by omega⟩, ?_⟩
  funext a; apply Fin.ext; fin_cases a
  · rfl
  · rfl
  · show (x 2).val = 128 * (4 * ((x 2).val / 512) + (x 2).val / 128 % 4) + (x 2).val % 128
    omega

theorem ix4_eq (x : S9x2x2048x128.Idx) : ∃ (b : Fin 9) (g : Fin 2) (i : Fin 2048) (d : Fin 128), x = ix4 b g i d :=
  ⟨x 0, x 1, x 2, x 3, by funext a; fin_cases a <;> rfl⟩
theorem ix2_eq8 (x : S8x9.Idx) : ∃ (h : Fin 8) (b : Fin 9), x = ix2 h b := ⟨x 0, x 1, by funext a; fin_cases a <;> rfl⟩
theorem ix2_eq2 (x : S2x9.Idx) : ∃ (g : Fin 2) (b : Fin 9), x = ix2 g b := ⟨x 0, x 1, by funext a; fin_cases a <;> rfl⟩

include hq hk hv oq ok ov in
theorem out_eq : val_main_v134 (F := Ideal) (m ((c : Thread nD τ).loc main_arg0)) (m ((c : Thread nD τ).loc main_arg1)) (m ((c : Thread nD τ).loc main_arg2))
    = (dats m 0 c).arrAt 3 cfg0.N := by
  refine funext fun x => ?_
  obtain ⟨b, i, g, r, d, rfl⟩ := col_eq x
  exact (out_val hq hk hv oq ok ov b i g r d).trans (out_arr hq hk hv oq ok ov b i g r d).symm

include hq oq in
theorem qc_eq : val_main_v136 (F := Ideal) (m ((c : Thread nD τ).loc main_arg0)) = (dats m 0 c).arrAt 4 cfg0.N := by
  refine funext fun x => ?_
  obtain ⟨b, i, g, r, d, rfl⟩ := col_eq x
  exact (qc_val hq oq b i (hd g r) d).trans (qc_arr hq oq b i g r d).symm

include hk ok in
theorem kc_eq : val_main_v138 (F := Ideal) (m ((c : Thread nD τ).loc main_arg1)) = (dats m 0 c).arrAt 5 cfg0.N := by
  refine funext fun x => ?_
  obtain ⟨b, g, i, d, rfl⟩ := ix4_eq x
  exact (kc_val hk ok b g i d).trans (kc_arr hk ok b g i d).symm

include hv ov in
theorem vc_eq : val_main_v140 (F := Ideal) (m ((c : Thread nD τ).loc main_arg2)) = (dats m 0 c).arrAt 6 cfg0.N := by
  refine funext fun x => ?_
  obtain ⟨b, g, i, d, rfl⟩ := ix4_eq x
  exact (vc_val hv ov b g i d).trans (vc_arr hv ov b g i d).symm

include hq oq in
theorem qs_eq : val_main_v141 (F := Ideal) (m ((c : Thread nD τ).loc main_arg0)) = (dats m 0 c).arrAt 7 cfg0.N := by
  refine funext fun x => ?_
  obtain ⟨h, b, rfl⟩ := ix2_eq8 x
  exact (qs_val hq oq h b).trans (qs_arr hq oq h b).symm

include hk ok in
theorem ks_eq : val_main_v142 (F := Ideal) (m ((c : Thread nD τ).loc main_arg1)) = (dats m 0 c).arrAt 8 cfg0.N := by
  refine funext fun x => ?_
  obtain ⟨g, b, rfl⟩ := ix2_eq2 x
  exact (ks_val hk ok g b).trans (ks_arr hk ok g b).symm

include hv ov in
theorem vs_eq : val_main_v143 (F := Ideal) (m ((c : Thread nD τ).loc main_arg2)) = (dats m 0 c).arrAt 9 cfg0.N := by
  refine funext fun x => ?_
  obtain ⟨g, b, rfl⟩ := ix2_eq2 x
  exact (vs_val hv ov g b).trans (vs_arr hv ov g b).symm

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.InRange
public import proofs.«01_k».proof.Proof.Results
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run leaves its arguments as they were, and it declares no semaphores. -/
theorem frame_ri : Cert.quiescent_ReferenceIdeal := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

/-- The reference's values, from arguments in range, are the kernel's arrays. -/
theorem values (m : (ℓ : Loc Cert.KernelIdeal.nD Cert.KernelIdeal.τ Cert.KernelIdeal.sig) → Buf (Elt Ideal) ℓ)
    (h : Cert.Pre_KernelIdeal_in_range m) (c : Dev Cert.KernelIdeal.nD) :
    Cert.ReferenceIdeal.Read.val_main_v134 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = (Cert.KernelIdeal.Gen.dats m 0 c).arrAt 3 Cert.KernelIdeal.cfg0.N
    ∧ Cert.ReferenceIdeal.Read.val_main_v136 (F := Ideal) (m ((c.tc : Thread Cert.KernelIdeal.nD Cert.KernelIdeal.τ).loc Cert.KernelIdeal.main_arg0))
      = (Cert.KernelIdeal.Gen.dats m 0 c).arrAt 4 Cert.KernelIdeal.cfg0.N
    ∧ Cert.ReferenceIdeal.Read.val_main_v138 (F := Ideal) (m ((c.tc : Thread Cert.KernelIdeal.nD Cert.KernelIdeal.τ).loc Cert.KernelIdeal.main_arg1))
      = (Cert.KernelIdeal.Gen.dats m 0 c).arrAt 5 Cert.KernelIdeal.cfg0.N
    ∧ Cert.ReferenceIdeal.Read.val_main_v140 (F := Ideal) (m ((c.tc : Thread Cert.KernelIdeal.nD Cert.KernelIdeal.τ).loc Cert.KernelIdeal.main_arg2))
      = (Cert.KernelIdeal.Gen.dats m 0 c).arrAt 6 Cert.KernelIdeal.cfg0.N
    ∧ Cert.ReferenceIdeal.Read.val_main_v141 (F := Ideal) (m ((c.tc : Thread Cert.KernelIdeal.nD Cert.KernelIdeal.τ).loc Cert.KernelIdeal.main_arg0))
      = (Cert.KernelIdeal.Gen.dats m 0 c).arrAt 7 Cert.KernelIdeal.cfg0.N
    ∧ Cert.ReferenceIdeal.Read.val_main_v142 (F := Ideal) (m ((c.tc : Thread Cert.KernelIdeal.nD Cert.KernelIdeal.τ).loc Cert.KernelIdeal.main_arg1))
      = (Cert.KernelIdeal.Gen.dats m 0 c).arrAt 8 Cert.KernelIdeal.cfg0.N
    ∧ Cert.ReferenceIdeal.Read.val_main_v143 (F := Ideal) (m ((c.tc : Thread Cert.KernelIdeal.nD Cert.KernelIdeal.τ).loc Cert.KernelIdeal.main_arg2))
      = (Cert.KernelIdeal.Gen.dats m 0 c).arrAt 9 Cert.KernelIdeal.cfg0.N := by
  obtain ⟨h0, h1, h2⟩ := h c
  obtain ⟨fq, fk, fv, hq, hk, hv, oq, ok, ov⟩ := Cert.InRange.exists_real _ _ _ h0 h1 h2
  exact ⟨Cert.Results.out_eq hq hk hv oq ok ov, Cert.Results.qc_eq hq oq, Cert.Results.kc_eq hk ok, Cert.Results.vc_eq hv ov,
    Cert.Results.qs_eq hq oq, Cert.Results.ks_eq hk ok, Cert.Results.vs_eq hv ov⟩

theorem algebraic : Cert.algebraic_KernelIdeal_ReferenceIdeal_pre_in_range := fun m g m' g' hpre hm => by
  refine ⟨fun c => (Cert.KernelIdeal.Gen.dats m 0 c).arrAt 3 Cert.KernelIdeal.cfg0.N, fun c => (Cert.KernelIdeal.Gen.dats m 0 c).arrAt 4 Cert.KernelIdeal.cfg0.N, fun c => (Cert.KernelIdeal.Gen.dats m 0 c).arrAt 5 Cert.KernelIdeal.cfg0.N, fun c => (Cert.KernelIdeal.Gen.dats m 0 c).arrAt 6 Cert.KernelIdeal.cfg0.N, fun c => (Cert.KernelIdeal.Gen.dats m 0 c).arrAt 7 Cert.KernelIdeal.cfg0.N, fun c => (Cert.KernelIdeal.Gen.dats m 0 c).arrAt 8 Cert.KernelIdeal.cfg0.N, fun c => (Cert.KernelIdeal.Gen.dats m 0 c).arrAt 9 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨r0, r1, r2, r3, r4, r5, r6, k0, k1, k2⟩ := h c
  obtain ⟨v0, v1, v2, v3, v4, v5, v6⟩ := values m hpre c
  obtain ⟨e0, e1, e2⟩ := hm c
  rw [← e0, ← e1, ← e2] at v0
  rw [← e0] at v1 v4
  rw [← e1] at v2 v5
  rw [← e2] at v3 v6
  exact ⟨r0.trans ((Cert.ReferenceIdeal.Read.val_main_v134_eq (StableHlo.launchContents m' c)).trans v0),
    r1.trans ((Cert.ReferenceIdeal.Read.val_main_v136_eq (StableHlo.launchContents m' c)).trans v1),
    r2.trans ((Cert.ReferenceIdeal.Read.val_main_v138_eq (StableHlo.launchContents m' c)).trans v2),
    r3.trans ((Cert.ReferenceIdeal.Read.val_main_v140_eq (StableHlo.launchContents m' c)).trans v3),
    r4.trans ((Cert.ReferenceIdeal.Read.val_main_v141_eq (StableHlo.launchContents m' c)).trans v4),
    r5.trans ((Cert.ReferenceIdeal.Read.val_main_v142_eq (StableHlo.launchContents m' c)).trans v5),
    r6.trans ((Cert.ReferenceIdeal.Read.val_main_v143_eq (StableHlo.launchContents m' c)).trans v6),
    k0, k1, k2⟩

theorem claim : Cert.Claim :=
  ⟨Cert.Kernel.Gen.facts, Cert.KernelIdeal.Gen.facts, Cert.ReferenceIdeal.Gen.facts, Cert.InRange.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    IdealRules.named_const.statement Cert.KernelIdeal.κ "sm_scale_log2e" .f32 0x3E0293EE#32 _ rfl, algebraic⟩

end Cert.Proof

end
